-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x4096x1024 : Shape := ⟨3, ![2, 4096, 1024]⟩
abbrev S16x1024 : Shape := ⟨2, ![16, 1024]⟩
abbrev S16 : Shape := ⟨1, ![16]⟩
abbrev S256x1024 : Shape := ⟨2, ![256, 1024]⟩
abbrev S256 : Shape := ⟨1, ![256]⟩
abbrev S1024x1024 : Shape := ⟨2, ![1024, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S2x4096x1024 .f32) (main_arg1 : FVec F S16x1024 .f32) (main_arg2 : FVec F S16 .f32) (main_arg3 : FVec F S16 .f32) (main_arg4 : FVec F S16x1024 .f32) (main_arg5 : FVec F S16 .f32) (main_arg6 : FVec F S16 .f32) (main_arg7 : FVec F S256x1024 .f32) (main_arg8 : FVec F S256 .f32) (main_arg9 : FVec F S256 .f32) (main_arg10 : FVec F S1024x1024 .f32) (main_arg11 : FVec F S1024 .f32) (main_arg12 : FVec F S1024x1024 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S1024x1024 .f32 := Host.absf main_arg10
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg11
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S2x4096x1024 : Shape := ⟨3, ![2, 4096, 1024]⟩
abbrev S16x1024 : Shape := ⟨2, ![16, 1024]⟩
abbrev S16 : Shape := ⟨1, ![16]⟩
abbrev S256x1024 : Shape := ⟨2, ![256, 1024]⟩
abbrev S256 : Shape := ⟨1, ![256]⟩
abbrev S1024x1024 : Shape := ⟨2, ![1024, 1024]⟩
abbrev S1024 : Shape := ⟨1, ![1024]⟩
abbrev S16x16x1024 : Shape := ⟨3, ![16, 16, 1024]⟩
abbrev S16x16 : Shape := ⟨2, ![16, 16]⟩
abbrev S288x1024 : Shape := ⟨2, ![288, 1024]⟩
abbrev S288 : Shape := ⟨1, ![288]⟩
abbrev S288x1 : Shape := ⟨2, ![288, 1]⟩
abbrev S8192x1024 : Shape := ⟨2, ![8192, 1024]⟩
abbrev S1024x1 : Shape := ⟨2, ![1024, 1]⟩
abbrev S16x1 : Shape := ⟨2, ![16, 1]⟩
abbrev S256x1 : Shape := ⟨2, ![256, 1]⟩
abbrev S512x1024 : Shape := ⟨2, ![512, 1024]⟩
abbrev S128x1024 : Shape := ⟨2, ![128, 1024]⟩
abbrev S1024x8192 : Shape := ⟨2, ![1024, 8192]⟩
abbrev S272x8192 : Shape := ⟨2, ![272, 8192]⟩
abbrev S16x8192 : Shape := ⟨2, ![16, 8192]⟩
abbrev S288x512 : Shape := ⟨2, ![288, 512]⟩
abbrev S1024x512 : Shape := ⟨2, ![1024, 512]⟩
abbrev S16x512 : Shape := ⟨2, ![16, 512]⟩
abbrev S256x512 : Shape := ⟨2, ![256, 512]⟩
abbrev S512 : Shape := ⟨1, ![512]⟩
abbrev S1x512 : Shape := ⟨2, ![1, 512]⟩
abbrev S1x128 : Shape := ⟨2, ![1, 128]⟩
abbrev S128x1 : Shape := ⟨2, ![128, 1]⟩
abbrev S64x128 : Shape := ⟨2, ![64, 128]⟩
abbrev S128x128 : Shape := ⟨2, ![128, 128]⟩
abbrev S1024x128 : Shape := ⟨2, ![1024, 128]⟩

abbrev nBuf : Space → Nat
  | .hbm => 34
  | .vmem => 15
  | .smem => 0
  | _ => 0

abbrev bufTy : (tb : Table) → Fin (tcTables nBuf tb) → BufTy
  | .hbm, ⟨0, _⟩ => ⟨S2x4096x1024, .f32⟩
  | .hbm, ⟨1, _⟩ => ⟨S16x1024, .f32⟩
  | .hbm, ⟨2, _⟩ => ⟨S16, .f32⟩
  | .hbm, ⟨3, _⟩ => ⟨S16, .f32⟩
  | .hbm, ⟨4, _⟩ => ⟨S16x1024, .f32⟩
  | .hbm, ⟨5, _⟩ => ⟨S16, .f32⟩
  | .hbm, ⟨6, _⟩ => ⟨S16, .f32⟩
  | .hbm, ⟨7, _⟩ => ⟨S256x1024, .f32⟩
  | .hbm, ⟨8, _⟩ => ⟨S256, .f32⟩
  | .hbm, ⟨9, _⟩ => ⟨S256, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S16x16x1024, .f32⟩
  | .hbm, ⟨14, _⟩ => ⟨S16x16x1024, .f32⟩
  | .hbm, ⟨15, _⟩ => ⟨S256x1024, .f32⟩
  | .hbm, ⟨16, _⟩ => ⟨S16x16, .f32⟩
  | .hbm, ⟨17, _⟩ => ⟨S16x16, .f32⟩
  | .hbm, ⟨18, _⟩ => ⟨S256, .f32⟩
  | .hbm, ⟨19, _⟩ => ⟨S16x16, .f32⟩
  | .hbm, ⟨20, _⟩ => ⟨S16x16, .f32⟩
  | .hbm, ⟨21, _⟩ => ⟨S256, .f32⟩
  | .hbm, ⟨22, _⟩ => ⟨S288x1024, .f32⟩
  | .hbm, ⟨23, _⟩ => ⟨S288, .f32⟩
  | .hbm, ⟨24, _⟩ => ⟨S288x1, .f32⟩
  | .hbm, ⟨25, _⟩ => ⟨S1024x1024, .bf16⟩
  | .hbm, ⟨26, _⟩ => ⟨S8192x1024, .f32⟩
  | .hbm, ⟨27, _⟩ => ⟨S1024x1, .f32⟩
  | .hbm, ⟨28, _⟩ => ⟨S16x1, .f32⟩
  | .hbm, ⟨29, _⟩ => ⟨S16x1, .f32⟩
  | .hbm, ⟨30, _⟩ => ⟨S256x1, .f32⟩
  | .hbm, ⟨31, _⟩ => ⟨S1024x1024, .bf16⟩
  | .hbm, ⟨32, _⟩ => ⟨S8192x1024, .f32⟩
  | .hbm, ⟨33, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S288x1024, .f32⟩
  | .local _ .vmem, ⟨3, _⟩ => ⟨S1024x1024, .bf16⟩
  | .local _ .vmem, ⟨4, _⟩ => ⟨S288x1, .f32⟩
  | .local _ .vmem, ⟨5, _⟩ => ⟨S1024x1, .f32⟩
  | .local _ .vmem, ⟨6, _⟩ => ⟨S16x1, .f32⟩
  | .local _ .vmem, ⟨7, _⟩ => ⟨S16x1, .f32⟩
  | .local _ .vmem, ⟨8, _⟩ => ⟨S256x1, .f32⟩
  | .local _ .vmem, ⟨9, _⟩ => ⟨S1024x1024, .bf16⟩
  | .local _ .vmem, ⟨10, _⟩ => ⟨S128x1024, .f32⟩
  | .local _ .vmem, ⟨11, _⟩ => ⟨S128x1024, .f32⟩
  | .local _ .vmem, ⟨12, _⟩ => ⟨S1024x8192, .bf16⟩
  | .local _ .vmem, ⟨13, _⟩ => ⟨S272x8192, .bf16⟩
  | .local _ .vmem, ⟨14, _⟩ => ⟨S16x8192, .i32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![80], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c512_i32 : BitVec 32 := 512#32
  let v6 : BitVec 32 := Scalar.muli arg0 c512_i32
  v6
def k0_off1 (i : grid0.Coords) : Fin 2 → Nat :=
  let c0_12 : Index := 0#32
  let arg0 : BitVec 32 := BitVec.ofNat 32 (i 0).val
  let c512_i32 : BitVec 32 := 512#32
  let v6 : BitVec 32 := Scalar.muli arg0 c512_i32
  let v7 : BitVec 32 := v6
  let v26 : Index := Scalar.indexCast v7
  ![0, v26.toNat]
def k0_off2 (i : grid0.Coords) : Fin 2 → Nat :=
  let c0_32 : Index := 0#32
  let arg0 : BitVec 32 := BitVec.ofNat 32 (i 0).val
  let c512_i32 : BitVec 32 := 512#32
  let v6 : BitVec 32 := Scalar.muli arg0 c512_i32
  let v7 : BitVec 32 := v6
  let v90 : Index := Scalar.indexCast v7
  ![0, v90.toNat]
def k0_off3 (i : grid0.Coords) : Fin 2 → Nat :=
  let c0_67 : Index := 0#32
  let arg0 : BitVec 32 := BitVec.ofNat 32 (i 0).val
  let c512_i32 : BitVec 32 := 512#32
  let v6 : BitVec 32 := Scalar.muli arg0 c512_i32
  let v7 : BitVec 32 := v6
  let v212 : Index := Scalar.indexCast v7
  ![0, v212.toNat]
def k0_off4 (i : grid0.Coords) : Fin 2 → Nat :=
  let c16 : Index := 16#32
  let arg0 : BitVec 32 := BitVec.ofNat 32 (i 0).val
  let c512_i32 : BitVec 32 := 512#32
  let v6 : BitVec 32 := Scalar.muli arg0 c512_i32
  let v7 : BitVec 32 := v6
  let v222 : Index := Scalar.indexCast v7
  ![16, v222.toNat]
def k0_off5 (i : grid0.Coords) : Fin 2 → Nat :=
  let c32 : Index := 32#32
  let arg0 : BitVec 32 := BitVec.ofNat 32 (i 0).val
  let c512_i32 : BitVec 32 := 512#32
  let v6 : BitVec 32 := Scalar.muli arg0 c512_i32
  let v7 : BitVec 32 := v6
  let v232 : Index := Scalar.indexCast v7
  ![32, v232.toNat]
def k0_off6 (i : grid0.Coords) : Fin 2 → Nat :=
  let c48 : Index := 48#32
  let arg0 : BitVec 32 := BitVec.ofNat 32 (i 0).val
  let c512_i32 : BitVec 32 := 512#32
  let v6 : BitVec 32 := Scalar.muli arg0 c512_i32
  let v7 : BitVec 32 := v6
  let v242 : Index := Scalar.indexCast v7
  ![48, v242.toNat]
def k0_off7 (i : grid0.Coords) : Fin 2 → Nat :=
  let c64 : Index := 64#32
  let arg0 : BitVec 32 := BitVec.ofNat 32 (i 0).val
  let c512_i32 : BitVec 32 := 512#32
  let v6 : BitVec 32 := Scalar.muli arg0 c512_i32
  let v7 : BitVec 32 := v6
  let v252 : Index := Scalar.indexCast v7
  ![64, v252.toNat]
def k0_off8 (i : grid0.Coords) : Fin 2 → Nat :=
  let c80 : Index := 80#32
  let arg0 : BitVec 32 := BitVec.ofNat 32 (i 0).val
  let c512_i32 : BitVec 32 := 512#32
  let v6 : BitVec 32 := Scalar.muli arg0 c512_i32
  let v7 : BitVec 32 := v6
  let v262 : Index := Scalar.indexCast v7
  ![80, v262.toNat]
def k0_off9 (i : grid0.Coords) : Fin 2 → Nat :=
  let c96 : Index := 96#32
  let arg0 : BitVec 32 := BitVec.ofNat 32 (i 0).val
  let c512_i32 : BitVec 32 := 512#32
  let v6 : BitVec 32 := Scalar.muli arg0 c512_i32
  let v7 : BitVec 32 := v6
  let v272 : Index := Scalar.indexCast v7
  ![96, v272.toNat]
def k0_off10 (i : grid0.Coords) : Fin 2 → Nat :=
  let c112 : Index := 112#32
  let arg0 : BitVec 32 := BitVec.ofNat 32 (i 0).val
  let c512_i32 : BitVec 32 := 512#32
  let v6 : BitVec 32 := Scalar.muli arg0 c512_i32
  let v7 : BitVec 32 := v6
  let v282 : Index := Scalar.indexCast v7
  ![112, v282.toNat]
def k0_off11 (i : grid0.Coords) : Fin 2 → Nat :=
  let c128 : Index := 128#32
  let arg0 : BitVec 32 := BitVec.ofNat 32 (i 0).val
  let c512_i32 : BitVec 32 := 512#32
  let v6 : BitVec 32 := Scalar.muli arg0 c512_i32
  let v7 : BitVec 32 := v6
  let v292 : Index := Scalar.indexCast v7
  ![128, v292.toNat]
def k0_off12 (i : grid0.Coords) : Fin 2 → Nat :=
  let c144 : Index := 144#32
  let arg0 : BitVec 32 := BitVec.ofNat 32 (i 0).val
  let c512_i32 : BitVec 32 := 512#32
  let v6 : BitVec 32 := Scalar.muli arg0 c512_i32
  let v7 : BitVec 32 := v6
  let v302 : Index := Scalar.indexCast v7
  ![144, v302.toNat]
def k0_off13 (i : grid0.Coords) : Fin 2 → Nat :=
  let c160 : Index := 160#32
  let arg0 : BitVec 32 := BitVec.ofNat 32 (i 0).val
  let c512_i32 : BitVec 32 := 512#32
  let v6 : BitVec 32 := Scalar.muli arg0 c512_i32
  let v7 : BitVec 32 := v6
  let v312 : Index := Scalar.indexCast v7
  ![160, v312.toNat]
def k0_off14 (i : grid0.Coords) : Fin 2 → Nat :=
  let c176 : Index := 176#32
  let arg0 : BitVec 32 := BitVec.ofNat 32 (i 0).val
  let c512_i32 : BitVec 32 := 512#32
  let v6 : BitVec 32 := Scalar.muli arg0 c512_i32
  let v7 : BitVec 32 := v6
  let v322 : Index := Scalar.indexCast v7
  ![176, v322.toNat]
def k0_off15 (i : grid0.Coords) : Fin 2 → Nat :=
  let c192 : Index := 192#32
  let arg0 : BitVec 32 := BitVec.ofNat 32 (i 0).val
  let c512_i32 : BitVec 32 := 512#32
  let v6 : BitVec 32 := Scalar.muli arg0 c512_i32
  let v7 : BitVec 32 := v6
  let v332 : Index := Scalar.indexCast v7
  ![192, v332.toNat]
def k0_off16 (i : grid0.Coords) : Fin 2 → Nat :=
  let c208 : Index := 208#32
  let arg0 : BitVec 32 := BitVec.ofNat 32 (i 0).val
  let c512_i32 : BitVec 32 := 512#32
  let v6 : BitVec 32 := Scalar.muli arg0 c512_i32
  let v7 : BitVec 32 := v6
  let v342 : Index := Scalar.indexCast v7
  ![208, v342.toNat]
def k0_off17 (i : grid0.Coords) : Fin 2 → Nat :=
  let c224 : Index := 224#32
  let arg0 : BitVec 32 := BitVec.ofNat 32 (i 0).val
  let c512_i32 : BitVec 32 := 512#32
  let v6 : BitVec 32 := Scalar.muli arg0 c512_i32
  let v7 : BitVec 32 := v6
  let v352 : Index := Scalar.indexCast v7
  ![224, v352.toNat]
def k0_off18 (i : grid0.Coords) : Fin 2 → Nat :=
  let c240 : Index := 240#32
  let arg0 : BitVec 32 := BitVec.ofNat 32 (i 0).val
  let c512_i32 : BitVec 32 := 512#32
  let v6 : BitVec 32 := Scalar.muli arg0 c512_i32
  let v7 : BitVec 32 := v6
  let v362 : Index := Scalar.indexCast v7
  ![240, v362.toNat]
def k0_off19 (i : grid0.Coords) : Fin 2 → Nat :=
  let c256 : Index := 256#32
  let arg0 : BitVec 32 := BitVec.ofNat 32 (i 0).val
  let c512_i32 : BitVec 32 := 512#32
  let v6 : BitVec 32 := Scalar.muli arg0 c512_i32
  let v7 : BitVec 32 := v6
  let v370 : Index := Scalar.indexCast v7
  ![256, v370.toNat]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def k0_mult2 (i : grid0.Coords) : BitVec 32 :=
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  v36
def k0_mult3 (i : grid0.Coords) : BitVec 32 :=
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  v42
def k0_off20 (i : grid0.Coords) : Fin 2 → Nat :=
  let c0 : Index := 0#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v47 : Index := Scalar.indexCast v37
  ![0, v47.toNat]
def k0_off21 (i : grid0.Coords) : Fin 2 → Nat :=
  let c0_17 : Index := 0#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v55 : Index := Scalar.indexCast v37
  ![0, v55.toNat]
def k0_off22 (i : grid0.Coords) : Fin 2 → Nat :=
  let c16 : Index := 16#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v57 : Index := Scalar.indexCast v37
  ![16, v57.toNat]
def k0_off23 (i : grid0.Coords) : Fin 2 → Nat :=
  let c32 : Index := 32#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v59 : Index := Scalar.indexCast v37
  ![32, v59.toNat]
def k0_off24 (i : grid0.Coords) : Fin 2 → Nat :=
  let c48 : Index := 48#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v61 : Index := Scalar.indexCast v37
  ![48, v61.toNat]
def k0_off25 (i : grid0.Coords) : Fin 2 → Nat :=
  let c64 : Index := 64#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v63 : Index := Scalar.indexCast v37
  ![64, v63.toNat]
def k0_off26 (i : grid0.Coords) : Fin 2 → Nat :=
  let c80 : Index := 80#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v65 : Index := Scalar.indexCast v37
  ![80, v65.toNat]
def k0_off27 (i : grid0.Coords) : Fin 2 → Nat :=
  let c96 : Index := 96#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v67 : Index := Scalar.indexCast v37
  ![96, v67.toNat]
def k0_off28 (i : grid0.Coords) : Fin 2 → Nat :=
  let c112 : Index := 112#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v69 : Index := Scalar.indexCast v37
  ![112, v69.toNat]
def k0_off29 (i : grid0.Coords) : Fin 2 → Nat :=
  let c128 : Index := 128#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v71 : Index := Scalar.indexCast v37
  ![128, v71.toNat]
def k0_off30 (i : grid0.Coords) : Fin 2 → Nat :=
  let c144 : Index := 144#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v73 : Index := Scalar.indexCast v37
  ![144, v73.toNat]
def k0_off31 (i : grid0.Coords) : Fin 2 → Nat :=
  let c160 : Index := 160#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v75 : Index := Scalar.indexCast v37
  ![160, v75.toNat]
def k0_off32 (i : grid0.Coords) : Fin 2 → Nat :=
  let c176 : Index := 176#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v77 : Index := Scalar.indexCast v37
  ![176, v77.toNat]
def k0_off33 (i : grid0.Coords) : Fin 2 → Nat :=
  let c192 : Index := 192#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v79 : Index := Scalar.indexCast v37
  ![192, v79.toNat]
def k0_off34 (i : grid0.Coords) : Fin 2 → Nat :=
  let c208 : Index := 208#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v81 : Index := Scalar.indexCast v37
  ![208, v81.toNat]
def k0_off35 (i : grid0.Coords) : Fin 2 → Nat :=
  let c224 : Index := 224#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v83 : Index := Scalar.indexCast v37
  ![224, v83.toNat]
def k0_off36 (i : grid0.Coords) : Fin 2 → Nat :=
  let c240 : Index := 240#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v85 : Index := Scalar.indexCast v37
  ![240, v85.toNat]
def k0_off37 (i : grid0.Coords) : Fin 2 → Nat :=
  let c256 : Index := 256#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v87 : Index := Scalar.indexCast v37
  ![256, v87.toNat]
def k0_off38 (i : grid0.Coords) (c0_i32_20 : BitVec 32) : Fin 2 → Nat :=
  let c0_21 : Index := 0#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v181 : BitVec 32 := Scalar.addi v43 c0_i32_20
  let v182 : Index := Scalar.indexCast v181
  ![0, v182.toNat]
def k0_off39 (i : grid0.Coords) : Fin 2 → Nat :=
  let c1 : Index := 1#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v379 : Index := Scalar.indexCast v37
  ![1, v379.toNat]
def k0_off40 (i : grid0.Coords) : Fin 2 → Nat :=
  let c1_65 : Index := 1#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v387 : Index := Scalar.indexCast v37
  ![1, v387.toNat]
def k0_off41 (i : grid0.Coords) : Fin 2 → Nat :=
  let c17 : Index := 17#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v389 : Index := Scalar.indexCast v37
  ![17, v389.toNat]
def k0_off42 (i : grid0.Coords) : Fin 2 → Nat :=
  let c33 : Index := 33#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v391 : Index := Scalar.indexCast v37
  ![33, v391.toNat]
def k0_off43 (i : grid0.Coords) : Fin 2 → Nat :=
  let c49 : Index := 49#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v393 : Index := Scalar.indexCast v37
  ![49, v393.toNat]
def k0_off44 (i : grid0.Coords) : Fin 2 → Nat :=
  let c65 : Index := 65#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v395 : Index := Scalar.indexCast v37
  ![65, v395.toNat]
def k0_off45 (i : grid0.Coords) : Fin 2 → Nat :=
  let c81 : Index := 81#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v397 : Index := Scalar.indexCast v37
  ![81, v397.toNat]
def k0_off46 (i : grid0.Coords) : Fin 2 → Nat :=
  let c97 : Index := 97#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v399 : Index := Scalar.indexCast v37
  ![97, v399.toNat]
def k0_off47 (i : grid0.Coords) : Fin 2 → Nat :=
  let c113 : Index := 113#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v401 : Index := Scalar.indexCast v37
  ![113, v401.toNat]
def k0_off48 (i : grid0.Coords) : Fin 2 → Nat :=
  let c129 : Index := 129#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v403 : Index := Scalar.indexCast v37
  ![129, v403.toNat]
def k0_off49 (i : grid0.Coords) : Fin 2 → Nat :=
  let c145 : Index := 145#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v405 : Index := Scalar.indexCast v37
  ![145, v405.toNat]
def k0_off50 (i : grid0.Coords) : Fin 2 → Nat :=
  let c161 : Index := 161#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v407 : Index := Scalar.indexCast v37
  ![161, v407.toNat]
def k0_off51 (i : grid0.Coords) : Fin 2 → Nat :=
  let c177 : Index := 177#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v409 : Index := Scalar.indexCast v37
  ![177, v409.toNat]
def k0_off52 (i : grid0.Coords) : Fin 2 → Nat :=
  let c193 : Index := 193#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v411 : Index := Scalar.indexCast v37
  ![193, v411.toNat]
def k0_off53 (i : grid0.Coords) : Fin 2 → Nat :=
  let c209 : Index := 209#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v413 : Index := Scalar.indexCast v37
  ![209, v413.toNat]
def k0_off54 (i : grid0.Coords) : Fin 2 → Nat :=
  let c225 : Index := 225#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v415 : Index := Scalar.indexCast v37
  ![225, v415.toNat]
def k0_off55 (i : grid0.Coords) : Fin 2 → Nat :=
  let c241 : Index := 241#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v417 : Index := Scalar.indexCast v37
  ![241, v417.toNat]
def k0_off56 (i : grid0.Coords) : Fin 2 → Nat :=
  let c257 : Index := 257#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v419 : Index := Scalar.indexCast v37
  ![257, v419.toNat]
def k0_off57 (i : grid0.Coords) (c0_i32_86 : BitVec 32) : Fin 2 → Nat :=
  let c64_87 : Index := 64#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v513 : BitVec 32 := Scalar.addi v43 c0_i32_86
  let v514 : Index := Scalar.indexCast v513
  ![64, v514.toNat]
def k0_off58 (i : grid0.Coords) : Fin 2 → Nat :=
  let c2 : Index := 2#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v711 : Index := Scalar.indexCast v37
  ![2, v711.toNat]
def k0_off59 (i : grid0.Coords) : Fin 2 → Nat :=
  let c2_134 : Index := 2#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v719 : Index := Scalar.indexCast v37
  ![2, v719.toNat]
def k0_off60 (i : grid0.Coords) : Fin 2 → Nat :=
  let c18 : Index := 18#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v721 : Index := Scalar.indexCast v37
  ![18, v721.toNat]
def k0_off61 (i : grid0.Coords) : Fin 2 → Nat :=
  let c34 : Index := 34#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v723 : Index := Scalar.indexCast v37
  ![34, v723.toNat]
def k0_off62 (i : grid0.Coords) : Fin 2 → Nat :=
  let c50 : Index := 50#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v725 : Index := Scalar.indexCast v37
  ![50, v725.toNat]
def k0_off63 (i : grid0.Coords) : Fin 2 → Nat :=
  let c66 : Index := 66#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v727 : Index := Scalar.indexCast v37
  ![66, v727.toNat]
def k0_off64 (i : grid0.Coords) : Fin 2 → Nat :=
  let c82 : Index := 82#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v729 : Index := Scalar.indexCast v37
  ![82, v729.toNat]
def k0_off65 (i : grid0.Coords) : Fin 2 → Nat :=
  let c98 : Index := 98#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v731 : Index := Scalar.indexCast v37
  ![98, v731.toNat]
def k0_off66 (i : grid0.Coords) : Fin 2 → Nat :=
  let c114 : Index := 114#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v733 : Index := Scalar.indexCast v37
  ![114, v733.toNat]
def k0_off67 (i : grid0.Coords) : Fin 2 → Nat :=
  let c130 : Index := 130#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v735 : Index := Scalar.indexCast v37
  ![130, v735.toNat]
def k0_off68 (i : grid0.Coords) : Fin 2 → Nat :=
  let c146 : Index := 146#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v737 : Index := Scalar.indexCast v37
  ![146, v737.toNat]
def k0_off69 (i : grid0.Coords) : Fin 2 → Nat :=
  let c162 : Index := 162#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v739 : Index := Scalar.indexCast v37
  ![162, v739.toNat]
def k0_off70 (i : grid0.Coords) : Fin 2 → Nat :=
  let c178 : Index := 178#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v741 : Index := Scalar.indexCast v37
  ![178, v741.toNat]
def k0_off71 (i : grid0.Coords) : Fin 2 → Nat :=
  let c194 : Index := 194#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v743 : Index := Scalar.indexCast v37
  ![194, v743.toNat]
def k0_off72 (i : grid0.Coords) : Fin 2 → Nat :=
  let c210 : Index := 210#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v745 : Index := Scalar.indexCast v37
  ![210, v745.toNat]
def k0_off73 (i : grid0.Coords) : Fin 2 → Nat :=
  let c226 : Index := 226#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v747 : Index := Scalar.indexCast v37
  ![226, v747.toNat]
def k0_off74 (i : grid0.Coords) : Fin 2 → Nat :=
  let c242 : Index := 242#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v749 : Index := Scalar.indexCast v37
  ![242, v749.toNat]
def k0_off75 (i : grid0.Coords) : Fin 2 → Nat :=
  let c258 : Index := 258#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v751 : Index := Scalar.indexCast v37
  ![258, v751.toNat]
def k0_off76 (i : grid0.Coords) (c0_i32_155 : BitVec 32) : Fin 2 → Nat :=
  let c128_156 : Index := 128#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v845 : BitVec 32 := Scalar.addi v43 c0_i32_155
  let v846 : Index := Scalar.indexCast v845
  ![128, v846.toNat]
def k0_off77 (i : grid0.Coords) : Fin 2 → Nat :=
  let c3 : Index := 3#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1043 : Index := Scalar.indexCast v37
  ![3, v1043.toNat]
def k0_off78 (i : grid0.Coords) : Fin 2 → Nat :=
  let c3_203 : Index := 3#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1051 : Index := Scalar.indexCast v37
  ![3, v1051.toNat]
def k0_off79 (i : grid0.Coords) : Fin 2 → Nat :=
  let c19 : Index := 19#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1053 : Index := Scalar.indexCast v37
  ![19, v1053.toNat]
def k0_off80 (i : grid0.Coords) : Fin 2 → Nat :=
  let c35 : Index := 35#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1055 : Index := Scalar.indexCast v37
  ![35, v1055.toNat]
def k0_off81 (i : grid0.Coords) : Fin 2 → Nat :=
  let c51 : Index := 51#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1057 : Index := Scalar.indexCast v37
  ![51, v1057.toNat]
def k0_off82 (i : grid0.Coords) : Fin 2 → Nat :=
  let c67 : Index := 67#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1059 : Index := Scalar.indexCast v37
  ![67, v1059.toNat]
def k0_off83 (i : grid0.Coords) : Fin 2 → Nat :=
  let c83 : Index := 83#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1061 : Index := Scalar.indexCast v37
  ![83, v1061.toNat]
def k0_off84 (i : grid0.Coords) : Fin 2 → Nat :=
  let c99 : Index := 99#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1063 : Index := Scalar.indexCast v37
  ![99, v1063.toNat]
def k0_off85 (i : grid0.Coords) : Fin 2 → Nat :=
  let c115 : Index := 115#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1065 : Index := Scalar.indexCast v37
  ![115, v1065.toNat]
def k0_off86 (i : grid0.Coords) : Fin 2 → Nat :=
  let c131 : Index := 131#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1067 : Index := Scalar.indexCast v37
  ![131, v1067.toNat]
def k0_off87 (i : grid0.Coords) : Fin 2 → Nat :=
  let c147 : Index := 147#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1069 : Index := Scalar.indexCast v37
  ![147, v1069.toNat]
def k0_off88 (i : grid0.Coords) : Fin 2 → Nat :=
  let c163 : Index := 163#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1071 : Index := Scalar.indexCast v37
  ![163, v1071.toNat]
def k0_off89 (i : grid0.Coords) : Fin 2 → Nat :=
  let c179 : Index := 179#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1073 : Index := Scalar.indexCast v37
  ![179, v1073.toNat]
def k0_off90 (i : grid0.Coords) : Fin 2 → Nat :=
  let c195 : Index := 195#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1075 : Index := Scalar.indexCast v37
  ![195, v1075.toNat]
def k0_off91 (i : grid0.Coords) : Fin 2 → Nat :=
  let c211 : Index := 211#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1077 : Index := Scalar.indexCast v37
  ![211, v1077.toNat]
def k0_off92 (i : grid0.Coords) : Fin 2 → Nat :=
  let c227 : Index := 227#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1079 : Index := Scalar.indexCast v37
  ![227, v1079.toNat]
def k0_off93 (i : grid0.Coords) : Fin 2 → Nat :=
  let c243 : Index := 243#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1081 : Index := Scalar.indexCast v37
  ![243, v1081.toNat]
def k0_off94 (i : grid0.Coords) : Fin 2 → Nat :=
  let c259 : Index := 259#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1083 : Index := Scalar.indexCast v37
  ![259, v1083.toNat]
def k0_off95 (i : grid0.Coords) (c0_i32_224 : BitVec 32) : Fin 2 → Nat :=
  let c192_225 : Index := 192#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v1177 : BitVec 32 := Scalar.addi v43 c0_i32_224
  let v1178 : Index := Scalar.indexCast v1177
  ![192, v1178.toNat]
def k0_off96 (i : grid0.Coords) : Fin 2 → Nat :=
  let c4 : Index := 4#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1375 : Index := Scalar.indexCast v37
  ![4, v1375.toNat]
def k0_off97 (i : grid0.Coords) : Fin 2 → Nat :=
  let c4_272 : Index := 4#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1383 : Index := Scalar.indexCast v37
  ![4, v1383.toNat]
def k0_off98 (i : grid0.Coords) : Fin 2 → Nat :=
  let c20 : Index := 20#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1385 : Index := Scalar.indexCast v37
  ![20, v1385.toNat]
def k0_off99 (i : grid0.Coords) : Fin 2 → Nat :=
  let c36 : Index := 36#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1387 : Index := Scalar.indexCast v37
  ![36, v1387.toNat]
def k0_off100 (i : grid0.Coords) : Fin 2 → Nat :=
  let c52 : Index := 52#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1389 : Index := Scalar.indexCast v37
  ![52, v1389.toNat]
def k0_off101 (i : grid0.Coords) : Fin 2 → Nat :=
  let c68 : Index := 68#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1391 : Index := Scalar.indexCast v37
  ![68, v1391.toNat]
def k0_off102 (i : grid0.Coords) : Fin 2 → Nat :=
  let c84 : Index := 84#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1393 : Index := Scalar.indexCast v37
  ![84, v1393.toNat]
def k0_off103 (i : grid0.Coords) : Fin 2 → Nat :=
  let c100 : Index := 100#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1395 : Index := Scalar.indexCast v37
  ![100, v1395.toNat]
def k0_off104 (i : grid0.Coords) : Fin 2 → Nat :=
  let c116 : Index := 116#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1397 : Index := Scalar.indexCast v37
  ![116, v1397.toNat]
def k0_off105 (i : grid0.Coords) : Fin 2 → Nat :=
  let c132 : Index := 132#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1399 : Index := Scalar.indexCast v37
  ![132, v1399.toNat]
def k0_off106 (i : grid0.Coords) : Fin 2 → Nat :=
  let c148 : Index := 148#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1401 : Index := Scalar.indexCast v37
  ![148, v1401.toNat]
def k0_off107 (i : grid0.Coords) : Fin 2 → Nat :=
  let c164 : Index := 164#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1403 : Index := Scalar.indexCast v37
  ![164, v1403.toNat]
def k0_off108 (i : grid0.Coords) : Fin 2 → Nat :=
  let c180 : Index := 180#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1405 : Index := Scalar.indexCast v37
  ![180, v1405.toNat]
def k0_off109 (i : grid0.Coords) : Fin 2 → Nat :=
  let c196 : Index := 196#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1407 : Index := Scalar.indexCast v37
  ![196, v1407.toNat]
def k0_off110 (i : grid0.Coords) : Fin 2 → Nat :=
  let c212 : Index := 212#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1409 : Index := Scalar.indexCast v37
  ![212, v1409.toNat]
def k0_off111 (i : grid0.Coords) : Fin 2 → Nat :=
  let c228 : Index := 228#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1411 : Index := Scalar.indexCast v37
  ![228, v1411.toNat]
def k0_off112 (i : grid0.Coords) : Fin 2 → Nat :=
  let c244 : Index := 244#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1413 : Index := Scalar.indexCast v37
  ![244, v1413.toNat]
def k0_off113 (i : grid0.Coords) : Fin 2 → Nat :=
  let c260 : Index := 260#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1415 : Index := Scalar.indexCast v37
  ![260, v1415.toNat]
def k0_off114 (i : grid0.Coords) (c0_i32_293 : BitVec 32) : Fin 2 → Nat :=
  let c256_294 : Index := 256#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v1509 : BitVec 32 := Scalar.addi v43 c0_i32_293
  let v1510 : Index := Scalar.indexCast v1509
  ![256, v1510.toNat]
def k0_off115 (i : grid0.Coords) : Fin 2 → Nat :=
  let c5 : Index := 5#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1707 : Index := Scalar.indexCast v37
  ![5, v1707.toNat]
def k0_off116 (i : grid0.Coords) : Fin 2 → Nat :=
  let c5_341 : Index := 5#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1715 : Index := Scalar.indexCast v37
  ![5, v1715.toNat]
def k0_off117 (i : grid0.Coords) : Fin 2 → Nat :=
  let c21 : Index := 21#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1717 : Index := Scalar.indexCast v37
  ![21, v1717.toNat]
def k0_off118 (i : grid0.Coords) : Fin 2 → Nat :=
  let c37 : Index := 37#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1719 : Index := Scalar.indexCast v37
  ![37, v1719.toNat]
def k0_off119 (i : grid0.Coords) : Fin 2 → Nat :=
  let c53 : Index := 53#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1721 : Index := Scalar.indexCast v37
  ![53, v1721.toNat]
def k0_off120 (i : grid0.Coords) : Fin 2 → Nat :=
  let c69 : Index := 69#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1723 : Index := Scalar.indexCast v37
  ![69, v1723.toNat]
def k0_off121 (i : grid0.Coords) : Fin 2 → Nat :=
  let c85 : Index := 85#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1725 : Index := Scalar.indexCast v37
  ![85, v1725.toNat]
def k0_off122 (i : grid0.Coords) : Fin 2 → Nat :=
  let c101 : Index := 101#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1727 : Index := Scalar.indexCast v37
  ![101, v1727.toNat]
def k0_off123 (i : grid0.Coords) : Fin 2 → Nat :=
  let c117 : Index := 117#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1729 : Index := Scalar.indexCast v37
  ![117, v1729.toNat]
def k0_off124 (i : grid0.Coords) : Fin 2 → Nat :=
  let c133 : Index := 133#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1731 : Index := Scalar.indexCast v37
  ![133, v1731.toNat]
def k0_off125 (i : grid0.Coords) : Fin 2 → Nat :=
  let c149 : Index := 149#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1733 : Index := Scalar.indexCast v37
  ![149, v1733.toNat]
def k0_off126 (i : grid0.Coords) : Fin 2 → Nat :=
  let c165 : Index := 165#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1735 : Index := Scalar.indexCast v37
  ![165, v1735.toNat]
def k0_off127 (i : grid0.Coords) : Fin 2 → Nat :=
  let c181 : Index := 181#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1737 : Index := Scalar.indexCast v37
  ![181, v1737.toNat]
def k0_off128 (i : grid0.Coords) : Fin 2 → Nat :=
  let c197 : Index := 197#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1739 : Index := Scalar.indexCast v37
  ![197, v1739.toNat]
def k0_off129 (i : grid0.Coords) : Fin 2 → Nat :=
  let c213 : Index := 213#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1741 : Index := Scalar.indexCast v37
  ![213, v1741.toNat]
def k0_off130 (i : grid0.Coords) : Fin 2 → Nat :=
  let c229 : Index := 229#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1743 : Index := Scalar.indexCast v37
  ![229, v1743.toNat]
def k0_off131 (i : grid0.Coords) : Fin 2 → Nat :=
  let c245 : Index := 245#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1745 : Index := Scalar.indexCast v37
  ![245, v1745.toNat]
def k0_off132 (i : grid0.Coords) : Fin 2 → Nat :=
  let c261 : Index := 261#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v1747 : Index := Scalar.indexCast v37
  ![261, v1747.toNat]
def k0_off133 (i : grid0.Coords) (c0_i32_362 : BitVec 32) : Fin 2 → Nat :=
  let c320 : Index := 320#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v1841 : BitVec 32 := Scalar.addi v43 c0_i32_362
  let v1842 : Index := Scalar.indexCast v1841
  ![320, v1842.toNat]
def k0_off134 (i : grid0.Coords) : Fin 2 → Nat :=
  let c6 : Index := 6#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2039 : Index := Scalar.indexCast v37
  ![6, v2039.toNat]
def k0_off135 (i : grid0.Coords) : Fin 2 → Nat :=
  let c6_409 : Index := 6#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2047 : Index := Scalar.indexCast v37
  ![6, v2047.toNat]
def k0_off136 (i : grid0.Coords) : Fin 2 → Nat :=
  let c22 : Index := 22#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2049 : Index := Scalar.indexCast v37
  ![22, v2049.toNat]
def k0_off137 (i : grid0.Coords) : Fin 2 → Nat :=
  let c38 : Index := 38#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2051 : Index := Scalar.indexCast v37
  ![38, v2051.toNat]
def k0_off138 (i : grid0.Coords) : Fin 2 → Nat :=
  let c54 : Index := 54#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2053 : Index := Scalar.indexCast v37
  ![54, v2053.toNat]
def k0_off139 (i : grid0.Coords) : Fin 2 → Nat :=
  let c70 : Index := 70#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2055 : Index := Scalar.indexCast v37
  ![70, v2055.toNat]
def k0_off140 (i : grid0.Coords) : Fin 2 → Nat :=
  let c86 : Index := 86#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2057 : Index := Scalar.indexCast v37
  ![86, v2057.toNat]
def k0_off141 (i : grid0.Coords) : Fin 2 → Nat :=
  let c102 : Index := 102#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2059 : Index := Scalar.indexCast v37
  ![102, v2059.toNat]
def k0_off142 (i : grid0.Coords) : Fin 2 → Nat :=
  let c118 : Index := 118#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2061 : Index := Scalar.indexCast v37
  ![118, v2061.toNat]
def k0_off143 (i : grid0.Coords) : Fin 2 → Nat :=
  let c134 : Index := 134#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2063 : Index := Scalar.indexCast v37
  ![134, v2063.toNat]
def k0_off144 (i : grid0.Coords) : Fin 2 → Nat :=
  let c150 : Index := 150#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2065 : Index := Scalar.indexCast v37
  ![150, v2065.toNat]
def k0_off145 (i : grid0.Coords) : Fin 2 → Nat :=
  let c166 : Index := 166#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2067 : Index := Scalar.indexCast v37
  ![166, v2067.toNat]
def k0_off146 (i : grid0.Coords) : Fin 2 → Nat :=
  let c182 : Index := 182#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2069 : Index := Scalar.indexCast v37
  ![182, v2069.toNat]
def k0_off147 (i : grid0.Coords) : Fin 2 → Nat :=
  let c198 : Index := 198#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2071 : Index := Scalar.indexCast v37
  ![198, v2071.toNat]
def k0_off148 (i : grid0.Coords) : Fin 2 → Nat :=
  let c214 : Index := 214#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2073 : Index := Scalar.indexCast v37
  ![214, v2073.toNat]
def k0_off149 (i : grid0.Coords) : Fin 2 → Nat :=
  let c230 : Index := 230#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2075 : Index := Scalar.indexCast v37
  ![230, v2075.toNat]
def k0_off150 (i : grid0.Coords) : Fin 2 → Nat :=
  let c246 : Index := 246#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2077 : Index := Scalar.indexCast v37
  ![246, v2077.toNat]
def k0_off151 (i : grid0.Coords) : Fin 2 → Nat :=
  let c262 : Index := 262#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2079 : Index := Scalar.indexCast v37
  ![262, v2079.toNat]
def k0_off152 (i : grid0.Coords) (c0_i32_430 : BitVec 32) : Fin 2 → Nat :=
  let c384 : Index := 384#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v2173 : BitVec 32 := Scalar.addi v43 c0_i32_430
  let v2174 : Index := Scalar.indexCast v2173
  ![384, v2174.toNat]
def k0_off153 (i : grid0.Coords) : Fin 2 → Nat :=
  let c7 : Index := 7#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2371 : Index := Scalar.indexCast v37
  ![7, v2371.toNat]
def k0_off154 (i : grid0.Coords) : Fin 2 → Nat :=
  let c7_477 : Index := 7#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2379 : Index := Scalar.indexCast v37
  ![7, v2379.toNat]
def k0_off155 (i : grid0.Coords) : Fin 2 → Nat :=
  let c23 : Index := 23#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2381 : Index := Scalar.indexCast v37
  ![23, v2381.toNat]
def k0_off156 (i : grid0.Coords) : Fin 2 → Nat :=
  let c39 : Index := 39#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2383 : Index := Scalar.indexCast v37
  ![39, v2383.toNat]
def k0_off157 (i : grid0.Coords) : Fin 2 → Nat :=
  let c55 : Index := 55#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2385 : Index := Scalar.indexCast v37
  ![55, v2385.toNat]
def k0_off158 (i : grid0.Coords) : Fin 2 → Nat :=
  let c71 : Index := 71#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2387 : Index := Scalar.indexCast v37
  ![71, v2387.toNat]
def k0_off159 (i : grid0.Coords) : Fin 2 → Nat :=
  let c87 : Index := 87#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2389 : Index := Scalar.indexCast v37
  ![87, v2389.toNat]
def k0_off160 (i : grid0.Coords) : Fin 2 → Nat :=
  let c103 : Index := 103#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2391 : Index := Scalar.indexCast v37
  ![103, v2391.toNat]
def k0_off161 (i : grid0.Coords) : Fin 2 → Nat :=
  let c119 : Index := 119#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2393 : Index := Scalar.indexCast v37
  ![119, v2393.toNat]
def k0_off162 (i : grid0.Coords) : Fin 2 → Nat :=
  let c135 : Index := 135#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2395 : Index := Scalar.indexCast v37
  ![135, v2395.toNat]
def k0_off163 (i : grid0.Coords) : Fin 2 → Nat :=
  let c151 : Index := 151#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2397 : Index := Scalar.indexCast v37
  ![151, v2397.toNat]
def k0_off164 (i : grid0.Coords) : Fin 2 → Nat :=
  let c167 : Index := 167#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2399 : Index := Scalar.indexCast v37
  ![167, v2399.toNat]
def k0_off165 (i : grid0.Coords) : Fin 2 → Nat :=
  let c183 : Index := 183#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2401 : Index := Scalar.indexCast v37
  ![183, v2401.toNat]
def k0_off166 (i : grid0.Coords) : Fin 2 → Nat :=
  let c199 : Index := 199#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2403 : Index := Scalar.indexCast v37
  ![199, v2403.toNat]
def k0_off167 (i : grid0.Coords) : Fin 2 → Nat :=
  let c215 : Index := 215#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2405 : Index := Scalar.indexCast v37
  ![215, v2405.toNat]
def k0_off168 (i : grid0.Coords) : Fin 2 → Nat :=
  let c231 : Index := 231#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2407 : Index := Scalar.indexCast v37
  ![231, v2407.toNat]
def k0_off169 (i : grid0.Coords) : Fin 2 → Nat :=
  let c247 : Index := 247#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2409 : Index := Scalar.indexCast v37
  ![247, v2409.toNat]
def k0_off170 (i : grid0.Coords) : Fin 2 → Nat :=
  let c263 : Index := 263#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2411 : Index := Scalar.indexCast v37
  ![263, v2411.toNat]
def k0_off171 (i : grid0.Coords) (c0_i32_498 : BitVec 32) : Fin 2 → Nat :=
  let c448 : Index := 448#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v2505 : BitVec 32 := Scalar.addi v43 c0_i32_498
  let v2506 : Index := Scalar.indexCast v2505
  ![448, v2506.toNat]
def k0_off172 (i : grid0.Coords) : Fin 2 → Nat :=
  let c8 : Index := 8#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2703 : Index := Scalar.indexCast v37
  ![8, v2703.toNat]
def k0_off173 (i : grid0.Coords) : Fin 2 → Nat :=
  let c8_545 : Index := 8#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2711 : Index := Scalar.indexCast v37
  ![8, v2711.toNat]
def k0_off174 (i : grid0.Coords) : Fin 2 → Nat :=
  let c24 : Index := 24#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2713 : Index := Scalar.indexCast v37
  ![24, v2713.toNat]
def k0_off175 (i : grid0.Coords) : Fin 2 → Nat :=
  let c40 : Index := 40#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2715 : Index := Scalar.indexCast v37
  ![40, v2715.toNat]
def k0_off176 (i : grid0.Coords) : Fin 2 → Nat :=
  let c56 : Index := 56#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2717 : Index := Scalar.indexCast v37
  ![56, v2717.toNat]
def k0_off177 (i : grid0.Coords) : Fin 2 → Nat :=
  let c72 : Index := 72#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2719 : Index := Scalar.indexCast v37
  ![72, v2719.toNat]
def k0_off178 (i : grid0.Coords) : Fin 2 → Nat :=
  let c88 : Index := 88#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2721 : Index := Scalar.indexCast v37
  ![88, v2721.toNat]
def k0_off179 (i : grid0.Coords) : Fin 2 → Nat :=
  let c104 : Index := 104#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2723 : Index := Scalar.indexCast v37
  ![104, v2723.toNat]
def k0_off180 (i : grid0.Coords) : Fin 2 → Nat :=
  let c120 : Index := 120#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2725 : Index := Scalar.indexCast v37
  ![120, v2725.toNat]
def k0_off181 (i : grid0.Coords) : Fin 2 → Nat :=
  let c136 : Index := 136#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2727 : Index := Scalar.indexCast v37
  ![136, v2727.toNat]
def k0_off182 (i : grid0.Coords) : Fin 2 → Nat :=
  let c152 : Index := 152#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2729 : Index := Scalar.indexCast v37
  ![152, v2729.toNat]
def k0_off183 (i : grid0.Coords) : Fin 2 → Nat :=
  let c168 : Index := 168#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2731 : Index := Scalar.indexCast v37
  ![168, v2731.toNat]
def k0_off184 (i : grid0.Coords) : Fin 2 → Nat :=
  let c184 : Index := 184#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2733 : Index := Scalar.indexCast v37
  ![184, v2733.toNat]
def k0_off185 (i : grid0.Coords) : Fin 2 → Nat :=
  let c200 : Index := 200#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2735 : Index := Scalar.indexCast v37
  ![200, v2735.toNat]
def k0_off186 (i : grid0.Coords) : Fin 2 → Nat :=
  let c216 : Index := 216#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2737 : Index := Scalar.indexCast v37
  ![216, v2737.toNat]
def k0_off187 (i : grid0.Coords) : Fin 2 → Nat :=
  let c232 : Index := 232#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2739 : Index := Scalar.indexCast v37
  ![232, v2739.toNat]
def k0_off188 (i : grid0.Coords) : Fin 2 → Nat :=
  let c248 : Index := 248#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2741 : Index := Scalar.indexCast v37
  ![248, v2741.toNat]
def k0_off189 (i : grid0.Coords) : Fin 2 → Nat :=
  let c264 : Index := 264#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v2743 : Index := Scalar.indexCast v37
  ![264, v2743.toNat]
def k0_off190 (i : grid0.Coords) (c0_i32_566 : BitVec 32) : Fin 2 → Nat :=
  let c512 : Index := 512#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v2837 : BitVec 32 := Scalar.addi v43 c0_i32_566
  let v2838 : Index := Scalar.indexCast v2837
  ![512, v2838.toNat]
def k0_off191 (i : grid0.Coords) : Fin 2 → Nat :=
  let c9 : Index := 9#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3035 : Index := Scalar.indexCast v37
  ![9, v3035.toNat]
def k0_off192 (i : grid0.Coords) : Fin 2 → Nat :=
  let c9_613 : Index := 9#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3043 : Index := Scalar.indexCast v37
  ![9, v3043.toNat]
def k0_off193 (i : grid0.Coords) : Fin 2 → Nat :=
  let c25 : Index := 25#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3045 : Index := Scalar.indexCast v37
  ![25, v3045.toNat]
def k0_off194 (i : grid0.Coords) : Fin 2 → Nat :=
  let c41 : Index := 41#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3047 : Index := Scalar.indexCast v37
  ![41, v3047.toNat]
def k0_off195 (i : grid0.Coords) : Fin 2 → Nat :=
  let c57 : Index := 57#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3049 : Index := Scalar.indexCast v37
  ![57, v3049.toNat]
def k0_off196 (i : grid0.Coords) : Fin 2 → Nat :=
  let c73 : Index := 73#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3051 : Index := Scalar.indexCast v37
  ![73, v3051.toNat]
def k0_off197 (i : grid0.Coords) : Fin 2 → Nat :=
  let c89 : Index := 89#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3053 : Index := Scalar.indexCast v37
  ![89, v3053.toNat]
def k0_off198 (i : grid0.Coords) : Fin 2 → Nat :=
  let c105 : Index := 105#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3055 : Index := Scalar.indexCast v37
  ![105, v3055.toNat]
def k0_off199 (i : grid0.Coords) : Fin 2 → Nat :=
  let c121 : Index := 121#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3057 : Index := Scalar.indexCast v37
  ![121, v3057.toNat]
def k0_off200 (i : grid0.Coords) : Fin 2 → Nat :=
  let c137 : Index := 137#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3059 : Index := Scalar.indexCast v37
  ![137, v3059.toNat]
def k0_off201 (i : grid0.Coords) : Fin 2 → Nat :=
  let c153 : Index := 153#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3061 : Index := Scalar.indexCast v37
  ![153, v3061.toNat]
def k0_off202 (i : grid0.Coords) : Fin 2 → Nat :=
  let c169 : Index := 169#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3063 : Index := Scalar.indexCast v37
  ![169, v3063.toNat]
def k0_off203 (i : grid0.Coords) : Fin 2 → Nat :=
  let c185 : Index := 185#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3065 : Index := Scalar.indexCast v37
  ![185, v3065.toNat]
def k0_off204 (i : grid0.Coords) : Fin 2 → Nat :=
  let c201 : Index := 201#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3067 : Index := Scalar.indexCast v37
  ![201, v3067.toNat]
def k0_off205 (i : grid0.Coords) : Fin 2 → Nat :=
  let c217 : Index := 217#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3069 : Index := Scalar.indexCast v37
  ![217, v3069.toNat]
def k0_off206 (i : grid0.Coords) : Fin 2 → Nat :=
  let c233 : Index := 233#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3071 : Index := Scalar.indexCast v37
  ![233, v3071.toNat]
def k0_off207 (i : grid0.Coords) : Fin 2 → Nat :=
  let c249 : Index := 249#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3073 : Index := Scalar.indexCast v37
  ![249, v3073.toNat]
def k0_off208 (i : grid0.Coords) : Fin 2 → Nat :=
  let c265 : Index := 265#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3075 : Index := Scalar.indexCast v37
  ![265, v3075.toNat]
def k0_off209 (i : grid0.Coords) (c0_i32_634 : BitVec 32) : Fin 2 → Nat :=
  let c576 : Index := 576#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v3169 : BitVec 32 := Scalar.addi v43 c0_i32_634
  let v3170 : Index := Scalar.indexCast v3169
  ![576, v3170.toNat]
def k0_off210 (i : grid0.Coords) : Fin 2 → Nat :=
  let c10 : Index := 10#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3367 : Index := Scalar.indexCast v37
  ![10, v3367.toNat]
def k0_off211 (i : grid0.Coords) : Fin 2 → Nat :=
  let c10_681 : Index := 10#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3375 : Index := Scalar.indexCast v37
  ![10, v3375.toNat]
def k0_off212 (i : grid0.Coords) : Fin 2 → Nat :=
  let c26 : Index := 26#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3377 : Index := Scalar.indexCast v37
  ![26, v3377.toNat]
def k0_off213 (i : grid0.Coords) : Fin 2 → Nat :=
  let c42 : Index := 42#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3379 : Index := Scalar.indexCast v37
  ![42, v3379.toNat]
def k0_off214 (i : grid0.Coords) : Fin 2 → Nat :=
  let c58 : Index := 58#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3381 : Index := Scalar.indexCast v37
  ![58, v3381.toNat]
def k0_off215 (i : grid0.Coords) : Fin 2 → Nat :=
  let c74 : Index := 74#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3383 : Index := Scalar.indexCast v37
  ![74, v3383.toNat]
def k0_off216 (i : grid0.Coords) : Fin 2 → Nat :=
  let c90 : Index := 90#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3385 : Index := Scalar.indexCast v37
  ![90, v3385.toNat]
def k0_off217 (i : grid0.Coords) : Fin 2 → Nat :=
  let c106 : Index := 106#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3387 : Index := Scalar.indexCast v37
  ![106, v3387.toNat]
def k0_off218 (i : grid0.Coords) : Fin 2 → Nat :=
  let c122 : Index := 122#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3389 : Index := Scalar.indexCast v37
  ![122, v3389.toNat]
def k0_off219 (i : grid0.Coords) : Fin 2 → Nat :=
  let c138 : Index := 138#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3391 : Index := Scalar.indexCast v37
  ![138, v3391.toNat]
def k0_off220 (i : grid0.Coords) : Fin 2 → Nat :=
  let c154 : Index := 154#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3393 : Index := Scalar.indexCast v37
  ![154, v3393.toNat]
def k0_off221 (i : grid0.Coords) : Fin 2 → Nat :=
  let c170 : Index := 170#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3395 : Index := Scalar.indexCast v37
  ![170, v3395.toNat]
def k0_off222 (i : grid0.Coords) : Fin 2 → Nat :=
  let c186 : Index := 186#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3397 : Index := Scalar.indexCast v37
  ![186, v3397.toNat]
def k0_off223 (i : grid0.Coords) : Fin 2 → Nat :=
  let c202 : Index := 202#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3399 : Index := Scalar.indexCast v37
  ![202, v3399.toNat]
def k0_off224 (i : grid0.Coords) : Fin 2 → Nat :=
  let c218 : Index := 218#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3401 : Index := Scalar.indexCast v37
  ![218, v3401.toNat]
def k0_off225 (i : grid0.Coords) : Fin 2 → Nat :=
  let c234 : Index := 234#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3403 : Index := Scalar.indexCast v37
  ![234, v3403.toNat]
def k0_off226 (i : grid0.Coords) : Fin 2 → Nat :=
  let c250 : Index := 250#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3405 : Index := Scalar.indexCast v37
  ![250, v3405.toNat]
def k0_off227 (i : grid0.Coords) : Fin 2 → Nat :=
  let c266 : Index := 266#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3407 : Index := Scalar.indexCast v37
  ![266, v3407.toNat]
def k0_off228 (i : grid0.Coords) (c0_i32_702 : BitVec 32) : Fin 2 → Nat :=
  let c640 : Index := 640#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v3501 : BitVec 32 := Scalar.addi v43 c0_i32_702
  let v3502 : Index := Scalar.indexCast v3501
  ![640, v3502.toNat]
def k0_off229 (i : grid0.Coords) : Fin 2 → Nat :=
  let c11 : Index := 11#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3699 : Index := Scalar.indexCast v37
  ![11, v3699.toNat]
def k0_off230 (i : grid0.Coords) : Fin 2 → Nat :=
  let c11_749 : Index := 11#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3707 : Index := Scalar.indexCast v37
  ![11, v3707.toNat]
def k0_off231 (i : grid0.Coords) : Fin 2 → Nat :=
  let c27 : Index := 27#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3709 : Index := Scalar.indexCast v37
  ![27, v3709.toNat]
def k0_off232 (i : grid0.Coords) : Fin 2 → Nat :=
  let c43 : Index := 43#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3711 : Index := Scalar.indexCast v37
  ![43, v3711.toNat]
def k0_off233 (i : grid0.Coords) : Fin 2 → Nat :=
  let c59 : Index := 59#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3713 : Index := Scalar.indexCast v37
  ![59, v3713.toNat]
def k0_off234 (i : grid0.Coords) : Fin 2 → Nat :=
  let c75 : Index := 75#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3715 : Index := Scalar.indexCast v37
  ![75, v3715.toNat]
def k0_off235 (i : grid0.Coords) : Fin 2 → Nat :=
  let c91 : Index := 91#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3717 : Index := Scalar.indexCast v37
  ![91, v3717.toNat]
def k0_off236 (i : grid0.Coords) : Fin 2 → Nat :=
  let c107 : Index := 107#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3719 : Index := Scalar.indexCast v37
  ![107, v3719.toNat]
def k0_off237 (i : grid0.Coords) : Fin 2 → Nat :=
  let c123 : Index := 123#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3721 : Index := Scalar.indexCast v37
  ![123, v3721.toNat]
def k0_off238 (i : grid0.Coords) : Fin 2 → Nat :=
  let c139 : Index := 139#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3723 : Index := Scalar.indexCast v37
  ![139, v3723.toNat]
def k0_off239 (i : grid0.Coords) : Fin 2 → Nat :=
  let c155 : Index := 155#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3725 : Index := Scalar.indexCast v37
  ![155, v3725.toNat]
def k0_off240 (i : grid0.Coords) : Fin 2 → Nat :=
  let c171 : Index := 171#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3727 : Index := Scalar.indexCast v37
  ![171, v3727.toNat]
def k0_off241 (i : grid0.Coords) : Fin 2 → Nat :=
  let c187 : Index := 187#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3729 : Index := Scalar.indexCast v37
  ![187, v3729.toNat]
def k0_off242 (i : grid0.Coords) : Fin 2 → Nat :=
  let c203 : Index := 203#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3731 : Index := Scalar.indexCast v37
  ![203, v3731.toNat]
def k0_off243 (i : grid0.Coords) : Fin 2 → Nat :=
  let c219 : Index := 219#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3733 : Index := Scalar.indexCast v37
  ![219, v3733.toNat]
def k0_off244 (i : grid0.Coords) : Fin 2 → Nat :=
  let c235 : Index := 235#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3735 : Index := Scalar.indexCast v37
  ![235, v3735.toNat]
def k0_off245 (i : grid0.Coords) : Fin 2 → Nat :=
  let c251 : Index := 251#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3737 : Index := Scalar.indexCast v37
  ![251, v3737.toNat]
def k0_off246 (i : grid0.Coords) : Fin 2 → Nat :=
  let c267 : Index := 267#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v3739 : Index := Scalar.indexCast v37
  ![267, v3739.toNat]
def k0_off247 (i : grid0.Coords) (c0_i32_770 : BitVec 32) : Fin 2 → Nat :=
  let c704 : Index := 704#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v3833 : BitVec 32 := Scalar.addi v43 c0_i32_770
  let v3834 : Index := Scalar.indexCast v3833
  ![704, v3834.toNat]
def k0_off248 (i : grid0.Coords) : Fin 2 → Nat :=
  let c12 : Index := 12#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4031 : Index := Scalar.indexCast v37
  ![12, v4031.toNat]
def k0_off249 (i : grid0.Coords) : Fin 2 → Nat :=
  let c12_817 : Index := 12#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4039 : Index := Scalar.indexCast v37
  ![12, v4039.toNat]
def k0_off250 (i : grid0.Coords) : Fin 2 → Nat :=
  let c28 : Index := 28#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4041 : Index := Scalar.indexCast v37
  ![28, v4041.toNat]
def k0_off251 (i : grid0.Coords) : Fin 2 → Nat :=
  let c44 : Index := 44#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4043 : Index := Scalar.indexCast v37
  ![44, v4043.toNat]
def k0_off252 (i : grid0.Coords) : Fin 2 → Nat :=
  let c60 : Index := 60#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4045 : Index := Scalar.indexCast v37
  ![60, v4045.toNat]
def k0_off253 (i : grid0.Coords) : Fin 2 → Nat :=
  let c76 : Index := 76#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4047 : Index := Scalar.indexCast v37
  ![76, v4047.toNat]
def k0_off254 (i : grid0.Coords) : Fin 2 → Nat :=
  let c92 : Index := 92#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4049 : Index := Scalar.indexCast v37
  ![92, v4049.toNat]
def k0_off255 (i : grid0.Coords) : Fin 2 → Nat :=
  let c108 : Index := 108#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4051 : Index := Scalar.indexCast v37
  ![108, v4051.toNat]
def k0_off256 (i : grid0.Coords) : Fin 2 → Nat :=
  let c124 : Index := 124#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4053 : Index := Scalar.indexCast v37
  ![124, v4053.toNat]
def k0_off257 (i : grid0.Coords) : Fin 2 → Nat :=
  let c140 : Index := 140#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4055 : Index := Scalar.indexCast v37
  ![140, v4055.toNat]
def k0_off258 (i : grid0.Coords) : Fin 2 → Nat :=
  let c156 : Index := 156#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4057 : Index := Scalar.indexCast v37
  ![156, v4057.toNat]
def k0_off259 (i : grid0.Coords) : Fin 2 → Nat :=
  let c172 : Index := 172#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4059 : Index := Scalar.indexCast v37
  ![172, v4059.toNat]
def k0_off260 (i : grid0.Coords) : Fin 2 → Nat :=
  let c188 : Index := 188#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4061 : Index := Scalar.indexCast v37
  ![188, v4061.toNat]
def k0_off261 (i : grid0.Coords) : Fin 2 → Nat :=
  let c204 : Index := 204#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4063 : Index := Scalar.indexCast v37
  ![204, v4063.toNat]
def k0_off262 (i : grid0.Coords) : Fin 2 → Nat :=
  let c220 : Index := 220#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4065 : Index := Scalar.indexCast v37
  ![220, v4065.toNat]
def k0_off263 (i : grid0.Coords) : Fin 2 → Nat :=
  let c236 : Index := 236#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4067 : Index := Scalar.indexCast v37
  ![236, v4067.toNat]
def k0_off264 (i : grid0.Coords) : Fin 2 → Nat :=
  let c252 : Index := 252#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4069 : Index := Scalar.indexCast v37
  ![252, v4069.toNat]
def k0_off265 (i : grid0.Coords) : Fin 2 → Nat :=
  let c268 : Index := 268#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4071 : Index := Scalar.indexCast v37
  ![268, v4071.toNat]
def k0_off266 (i : grid0.Coords) (c0_i32_838 : BitVec 32) : Fin 2 → Nat :=
  let c768 : Index := 768#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v4165 : BitVec 32 := Scalar.addi v43 c0_i32_838
  let v4166 : Index := Scalar.indexCast v4165
  ![768, v4166.toNat]
def k0_off267 (i : grid0.Coords) : Fin 2 → Nat :=
  let c13 : Index := 13#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4363 : Index := Scalar.indexCast v37
  ![13, v4363.toNat]
def k0_off268 (i : grid0.Coords) : Fin 2 → Nat :=
  let c13_885 : Index := 13#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4371 : Index := Scalar.indexCast v37
  ![13, v4371.toNat]
def k0_off269 (i : grid0.Coords) : Fin 2 → Nat :=
  let c29 : Index := 29#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4373 : Index := Scalar.indexCast v37
  ![29, v4373.toNat]
def k0_off270 (i : grid0.Coords) : Fin 2 → Nat :=
  let c45 : Index := 45#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4375 : Index := Scalar.indexCast v37
  ![45, v4375.toNat]
def k0_off271 (i : grid0.Coords) : Fin 2 → Nat :=
  let c61 : Index := 61#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4377 : Index := Scalar.indexCast v37
  ![61, v4377.toNat]
def k0_off272 (i : grid0.Coords) : Fin 2 → Nat :=
  let c77 : Index := 77#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4379 : Index := Scalar.indexCast v37
  ![77, v4379.toNat]
def k0_off273 (i : grid0.Coords) : Fin 2 → Nat :=
  let c93 : Index := 93#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4381 : Index := Scalar.indexCast v37
  ![93, v4381.toNat]
def k0_off274 (i : grid0.Coords) : Fin 2 → Nat :=
  let c109 : Index := 109#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4383 : Index := Scalar.indexCast v37
  ![109, v4383.toNat]
def k0_off275 (i : grid0.Coords) : Fin 2 → Nat :=
  let c125 : Index := 125#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4385 : Index := Scalar.indexCast v37
  ![125, v4385.toNat]
def k0_off276 (i : grid0.Coords) : Fin 2 → Nat :=
  let c141 : Index := 141#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4387 : Index := Scalar.indexCast v37
  ![141, v4387.toNat]
def k0_off277 (i : grid0.Coords) : Fin 2 → Nat :=
  let c157 : Index := 157#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4389 : Index := Scalar.indexCast v37
  ![157, v4389.toNat]
def k0_off278 (i : grid0.Coords) : Fin 2 → Nat :=
  let c173 : Index := 173#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4391 : Index := Scalar.indexCast v37
  ![173, v4391.toNat]
def k0_off279 (i : grid0.Coords) : Fin 2 → Nat :=
  let c189 : Index := 189#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4393 : Index := Scalar.indexCast v37
  ![189, v4393.toNat]
def k0_off280 (i : grid0.Coords) : Fin 2 → Nat :=
  let c205 : Index := 205#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4395 : Index := Scalar.indexCast v37
  ![205, v4395.toNat]
def k0_off281 (i : grid0.Coords) : Fin 2 → Nat :=
  let c221 : Index := 221#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4397 : Index := Scalar.indexCast v37
  ![221, v4397.toNat]
def k0_off282 (i : grid0.Coords) : Fin 2 → Nat :=
  let c237 : Index := 237#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4399 : Index := Scalar.indexCast v37
  ![237, v4399.toNat]
def k0_off283 (i : grid0.Coords) : Fin 2 → Nat :=
  let c253 : Index := 253#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4401 : Index := Scalar.indexCast v37
  ![253, v4401.toNat]
def k0_off284 (i : grid0.Coords) : Fin 2 → Nat :=
  let c269 : Index := 269#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4403 : Index := Scalar.indexCast v37
  ![269, v4403.toNat]
def k0_off285 (i : grid0.Coords) (c0_i32_906 : BitVec 32) : Fin 2 → Nat :=
  let c832 : Index := 832#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v4497 : BitVec 32 := Scalar.addi v43 c0_i32_906
  let v4498 : Index := Scalar.indexCast v4497
  ![832, v4498.toNat]
def k0_off286 (i : grid0.Coords) : Fin 2 → Nat :=
  let c14 : Index := 14#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4695 : Index := Scalar.indexCast v37
  ![14, v4695.toNat]
def k0_off287 (i : grid0.Coords) : Fin 2 → Nat :=
  let c14_953 : Index := 14#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4703 : Index := Scalar.indexCast v37
  ![14, v4703.toNat]
def k0_off288 (i : grid0.Coords) : Fin 2 → Nat :=
  let c30 : Index := 30#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4705 : Index := Scalar.indexCast v37
  ![30, v4705.toNat]
def k0_off289 (i : grid0.Coords) : Fin 2 → Nat :=
  let c46 : Index := 46#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4707 : Index := Scalar.indexCast v37
  ![46, v4707.toNat]
def k0_off290 (i : grid0.Coords) : Fin 2 → Nat :=
  let c62 : Index := 62#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4709 : Index := Scalar.indexCast v37
  ![62, v4709.toNat]
def k0_off291 (i : grid0.Coords) : Fin 2 → Nat :=
  let c78 : Index := 78#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4711 : Index := Scalar.indexCast v37
  ![78, v4711.toNat]
def k0_off292 (i : grid0.Coords) : Fin 2 → Nat :=
  let c94 : Index := 94#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4713 : Index := Scalar.indexCast v37
  ![94, v4713.toNat]
def k0_off293 (i : grid0.Coords) : Fin 2 → Nat :=
  let c110 : Index := 110#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4715 : Index := Scalar.indexCast v37
  ![110, v4715.toNat]
def k0_off294 (i : grid0.Coords) : Fin 2 → Nat :=
  let c126 : Index := 126#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4717 : Index := Scalar.indexCast v37
  ![126, v4717.toNat]
def k0_off295 (i : grid0.Coords) : Fin 2 → Nat :=
  let c142 : Index := 142#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4719 : Index := Scalar.indexCast v37
  ![142, v4719.toNat]
def k0_off296 (i : grid0.Coords) : Fin 2 → Nat :=
  let c158 : Index := 158#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4721 : Index := Scalar.indexCast v37
  ![158, v4721.toNat]
def k0_off297 (i : grid0.Coords) : Fin 2 → Nat :=
  let c174 : Index := 174#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4723 : Index := Scalar.indexCast v37
  ![174, v4723.toNat]
def k0_off298 (i : grid0.Coords) : Fin 2 → Nat :=
  let c190 : Index := 190#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4725 : Index := Scalar.indexCast v37
  ![190, v4725.toNat]
def k0_off299 (i : grid0.Coords) : Fin 2 → Nat :=
  let c206 : Index := 206#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4727 : Index := Scalar.indexCast v37
  ![206, v4727.toNat]
def k0_off300 (i : grid0.Coords) : Fin 2 → Nat :=
  let c222 : Index := 222#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4729 : Index := Scalar.indexCast v37
  ![222, v4729.toNat]
def k0_off301 (i : grid0.Coords) : Fin 2 → Nat :=
  let c238 : Index := 238#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4731 : Index := Scalar.indexCast v37
  ![238, v4731.toNat]
def k0_off302 (i : grid0.Coords) : Fin 2 → Nat :=
  let c254 : Index := 254#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4733 : Index := Scalar.indexCast v37
  ![254, v4733.toNat]
def k0_off303 (i : grid0.Coords) : Fin 2 → Nat :=
  let c270 : Index := 270#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v4735 : Index := Scalar.indexCast v37
  ![270, v4735.toNat]
def k0_off304 (i : grid0.Coords) (c0_i32_974 : BitVec 32) : Fin 2 → Nat :=
  let c896 : Index := 896#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v4829 : BitVec 32 := Scalar.addi v43 c0_i32_974
  let v4830 : Index := Scalar.indexCast v4829
  ![896, v4830.toNat]
def k0_off305 (i : grid0.Coords) : Fin 2 → Nat :=
  let c15 : Index := 15#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5027 : Index := Scalar.indexCast v37
  ![15, v5027.toNat]
def k0_off306 (i : grid0.Coords) : Fin 2 → Nat :=
  let c15_1021 : Index := 15#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5035 : Index := Scalar.indexCast v37
  ![15, v5035.toNat]
def k0_off307 (i : grid0.Coords) : Fin 2 → Nat :=
  let c31 : Index := 31#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5037 : Index := Scalar.indexCast v37
  ![31, v5037.toNat]
def k0_off308 (i : grid0.Coords) : Fin 2 → Nat :=
  let c47 : Index := 47#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5039 : Index := Scalar.indexCast v37
  ![47, v5039.toNat]
def k0_off309 (i : grid0.Coords) : Fin 2 → Nat :=
  let c63 : Index := 63#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5041 : Index := Scalar.indexCast v37
  ![63, v5041.toNat]
def k0_off310 (i : grid0.Coords) : Fin 2 → Nat :=
  let c79 : Index := 79#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5043 : Index := Scalar.indexCast v37
  ![79, v5043.toNat]
def k0_off311 (i : grid0.Coords) : Fin 2 → Nat :=
  let c95 : Index := 95#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5045 : Index := Scalar.indexCast v37
  ![95, v5045.toNat]
def k0_off312 (i : grid0.Coords) : Fin 2 → Nat :=
  let c111 : Index := 111#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5047 : Index := Scalar.indexCast v37
  ![111, v5047.toNat]
def k0_off313 (i : grid0.Coords) : Fin 2 → Nat :=
  let c127 : Index := 127#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5049 : Index := Scalar.indexCast v37
  ![127, v5049.toNat]
def k0_off314 (i : grid0.Coords) : Fin 2 → Nat :=
  let c143 : Index := 143#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5051 : Index := Scalar.indexCast v37
  ![143, v5051.toNat]
def k0_off315 (i : grid0.Coords) : Fin 2 → Nat :=
  let c159 : Index := 159#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5053 : Index := Scalar.indexCast v37
  ![159, v5053.toNat]
def k0_off316 (i : grid0.Coords) : Fin 2 → Nat :=
  let c175 : Index := 175#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5055 : Index := Scalar.indexCast v37
  ![175, v5055.toNat]
def k0_off317 (i : grid0.Coords) : Fin 2 → Nat :=
  let c191 : Index := 191#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5057 : Index := Scalar.indexCast v37
  ![191, v5057.toNat]
def k0_off318 (i : grid0.Coords) : Fin 2 → Nat :=
  let c207 : Index := 207#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5059 : Index := Scalar.indexCast v37
  ![207, v5059.toNat]
def k0_off319 (i : grid0.Coords) : Fin 2 → Nat :=
  let c223 : Index := 223#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5061 : Index := Scalar.indexCast v37
  ![223, v5061.toNat]
def k0_off320 (i : grid0.Coords) : Fin 2 → Nat :=
  let c239 : Index := 239#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5063 : Index := Scalar.indexCast v37
  ![239, v5063.toNat]
def k0_off321 (i : grid0.Coords) : Fin 2 → Nat :=
  let c255 : Index := 255#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5065 : Index := Scalar.indexCast v37
  ![255, v5065.toNat]
def k0_off322 (i : grid0.Coords) : Fin 2 → Nat :=
  let c271 : Index := 271#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32 : BitVec 32 := 4096#32
  let v35 : BitVec 32 := Scalar.muli v23 c4096_i32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let v36 : BitVec 32 := Scalar.addi v35 v34
  let v37 : BitVec 32 := v36
  let v5067 : Index := Scalar.indexCast v37
  ![271, v5067.toNat]
def k0_off323 (i : grid0.Coords) (c0_i32_1042 : BitVec 32) : Fin 2 → Nat :=
  let c960 : Index := 960#32
  let arg0 : BitVec 32 := BitVec.ofNat 32 (i 0).val
  let c16_i32_2 : BitVec 32 := 16#32
  let v6 : BitVec 32 := Scalar.subi arg0 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c32_i32 : BitVec 32 := 32#32
  let c0_i32_5 : BitVec 32 := 0#32
  let v13 : BitVec 1 := Scalar.cmpi .sgt c32_i32 c0_i32_5
  let v14 : BitVec 32 := Scalar.extui v13
  let c0_i32_6 : BitVec 32 := 0#32
  let v15 : BitVec 1 := Scalar.cmpi .slt c32_i32 c0_i32_6
  let v16 : BitVec 32 := Scalar.extui v15
  let v17 : BitVec 32 := Scalar.subi v14 v16
  let v18 : BitVec 1 := Scalar.cmpi .ne v12 v17
  let v19 : BitVec 32 := Scalar.remsi v6 c32_i32
  let c0_i32_7 : BitVec 32 := 0#32
  let v20 : BitVec 1 := Scalar.cmpi .ne v19 c0_i32_7
  let v21 : BitVec 1 := Scalar.andi v18 v20
  let v7 : BitVec 32 := Scalar.divsi v6 c32_i32
  let c1_i32 : BitVec 32 := 1#32
  let v22 : BitVec 32 := Scalar.subi v7 c1_i32
  let v23 : BitVec 32 := Scalar.select v21 v22 v7
  let c4096_i32_14 : BitVec 32 := 4096#32
  let v38 : BitVec 32 := Scalar.muli v23 c4096_i32_14
  let c3712_i32 : BitVec 32 := 3712#32
  let c0_i32_16 : BitVec 32 := 0#32
  let c32_i32_8 : BitVec 32 := 32#32
  let c0_i32_9 : BitVec 32 := 0#32
  let v24 : BitVec 1 := Scalar.cmpi .eq c32_i32_8 c0_i32_9
  let c1_i32_10 : BitVec 32 := 1#32
  let v25 : BitVec 32 := Scalar.select v24 c1_i32_10 c32_i32_8
  let v26 : BitVec 32 := Scalar.remsi v6 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let c128_i32 : BitVec 32 := 128#32
  let v34 : BitVec 32 := Scalar.muli v33 c128_i32
  let c128_i32_15 : BitVec 32 := 128#32
  let v39 : BitVec 32 := Scalar.subi v34 c128_i32_15
  let v40 : BitVec 32 := Scalar.maxsi c0_i32_16 v39
  let v41 : BitVec 32 := Scalar.minsi c3712_i32 v40
  let v42 : BitVec 32 := Scalar.addi v38 v41
  let v43 : BitVec 32 := v42
  let v5161 : BitVec 32 := Scalar.addi v43 c0_i32_1042
  let v5162 : Index := Scalar.indexCast v5161
  ![960, v5162.toNat]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S288x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x4096x1024 : Shape := ⟨3, ![2, 4096, 1024]⟩
abbrev S16x1024 : Shape := ⟨2, ![16, 1024]⟩
abbrev S16 : Shape := ⟨1, ![16]⟩
abbrev S256x1024 : Shape := ⟨2, ![256, 1024]⟩
abbrev S256 : Shape := ⟨1, ![256]⟩
abbrev S1024x1024 : Shape := ⟨2, ![1024, 1024]⟩
abbrev S1024 : Shape := ⟨1, ![1024]⟩
abbrev S8192x1024 : Shape := ⟨2, ![8192, 1024]⟩
abbrev S1024x16 : Shape := ⟨2, ![1024, 16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x1 : Shape := ⟨2, ![8192, 1]⟩
abbrev S2x4096x16 : Shape := ⟨3, ![2, 4096, 16]⟩
abbrev S1024x256 : Shape := ⟨2, ![1024, 256]⟩
abbrev S8192x256 : Shape := ⟨2, ![8192, 256]⟩
abbrev S1x256 : Shape := ⟨2, ![1, 256]⟩
abbrev S2x4096x16x16 : Shape := ⟨4, ![2, 4096, 16, 16]⟩
abbrev S1x1024 : Shape := ⟨2, ![1, 1024]⟩
abbrev S2x4096x16x64 : Shape := ⟨4, ![2, 4096, 16, 64]⟩
abbrev S4096 : Shape := ⟨1, ![4096]⟩
abbrev S1x4096x1 : Shape := ⟨3, ![1, 4096, 1]⟩
abbrev S1x1x16x1 : Shape := ⟨4, ![1, 1, 16, 1]⟩
abbrev S2x4096x1x16 : Shape := ⟨4, ![2, 4096, 1, 16]⟩
abbrev S2x65536x16 : Shape := ⟨3, ![2, 65536, 16]⟩
abbrev S2x65536x16x1 : Shape := ⟨4, ![2, 65536, 16, 1]⟩
abbrev S1 : Shape := ⟨1, ![1]⟩
abbrev S1x1x1x1 : Shape := ⟨4, ![1, 1, 1, 1]⟩
abbrev S2x65536x16x64 : Shape := ⟨4, ![2, 65536, 16, 64]⟩
abbrev S2x4096x16x16x64 : Shape := ⟨5, ![2, 4096, 16, 16, 64]⟩
abbrev S2x4096x16x16x1 : Shape := ⟨5, ![2, 4096, 16, 16, 1]⟩

abbrev nBuf : Space → Nat
  | .hbm => 272
  | .vmem => 0
  | .smem => 0
  | _ => 0

abbrev hbmTy0_0 (i : Nat) : BufTy := match i % 128 with
  | 0 => ⟨S2x4096x1024, .f32⟩
  | 1 => ⟨S16x1024, .f32⟩
  | 2 => ⟨S16, .f32⟩
  | 3 => ⟨S16, .f32⟩
  | 4 => ⟨S16x1024, .f32⟩
  | 5 => ⟨S16, .f32⟩
  | 6 => ⟨S16, .f32⟩
  | 7 => ⟨S256x1024, .f32⟩
  | 8 => ⟨S256, .f32⟩
  | 9 => ⟨S256, .f32⟩
  | 10 => ⟨S1024x1024, .f32⟩
  | 11 => ⟨S1024, .f32⟩
  | 12 => ⟨S1024x1024, .f32⟩
  | 13 => ⟨S8192x1024, .f32⟩
  | 14 => ⟨S1024x16, .f32⟩
  | 15 => ⟨S8192x16, .f32⟩
  | 16 => ⟨S1x16, .f32⟩
  | 17 => ⟨S8192x16, .f32⟩
  | 18 => ⟨S8192x16, .f32⟩
  | 19 => ⟨S8192x16, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x16, .f32⟩
  | 31 => ⟨S8192x16, .f32⟩
  | 32 => ⟨S1x16, .f32⟩
  | 33 => ⟨S8192x16, .f32⟩
  | 34 => ⟨S8192x16, .f32⟩
  | 35 => ⟨S8192x16, .f32⟩
  | 36 => ⟨S8192x16, .f32⟩
  | 37 => ⟨S_, .f32⟩
  | 38 => ⟨S8192x16, .f32⟩
  | 39 => ⟨S8192x16, .f32⟩
  | 40 => ⟨S_, .f32⟩
  | 41 => ⟨S8192x16, .f32⟩
  | 42 => ⟨S8192x16, .f32⟩
  | 43 => ⟨S_, .f32⟩
  | 44 => ⟨S8192x16, .f32⟩
  | 45 => ⟨S8192x16, .f32⟩
  | 46 => ⟨S_, .f32⟩
  | 47 => ⟨S8192x16, .f32⟩
  | 48 => ⟨S8192x16, .f32⟩
  | 49 => ⟨S_, .f32⟩
  | 50 => ⟨S8192x16, .f32⟩
  | 51 => ⟨S8192x16, .f32⟩
  | 52 => ⟨S2x4096x16, .f32⟩
  | 53 => ⟨S1024x16, .f32⟩
  | 54 => ⟨S8192x16, .f32⟩
  | 55 => ⟨S1x16, .f32⟩
  | 56 => ⟨S8192x16, .f32⟩
  | 57 => ⟨S8192x16, .f32⟩
  | 58 => ⟨S8192x16, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x16, .f32⟩
  | 70 => ⟨S8192x16, .f32⟩
  | 71 => ⟨S1x16, .f32⟩
  | 72 => ⟨S8192x16, .f32⟩
  | 73 => ⟨S8192x16, .f32⟩
  | 74 => ⟨S8192x16, .f32⟩
  | 75 => ⟨S_, .f32⟩
  | 76 => ⟨S8192x16, .f32⟩
  | 77 => ⟨S8192x16, .f32⟩
  | 78 => ⟨S2x4096x16, .f32⟩
  | 79 => ⟨S1024x256, .f32⟩
  | 80 => ⟨S8192x256, .f32⟩
  | 81 => ⟨S1x256, .f32⟩
  | 82 => ⟨S8192x256, .f32⟩
  | 83 => ⟨S8192x256, .f32⟩
  | 84 => ⟨S8192x256, .f32⟩
  | 85 => ⟨S_, .f32⟩
  | 86 => ⟨S8192, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S_, .f32⟩
  | 93 => ⟨S8192x1, .f32⟩
  | 94 => ⟨S8192x1, .f32⟩
  | 95 => ⟨S8192x256, .f32⟩
  | 96 => ⟨S8192x256, .f32⟩
  | 97 => ⟨S1x256, .f32⟩
  | 98 => ⟨S8192x256, .f32⟩
  | 99 => ⟨S8192x256, .f32⟩
  | 100 => ⟨S8192x256, .f32⟩
  | 101 => ⟨S8192x256, .f32⟩
  | 102 => ⟨S_, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S2x4096x16x16, .f32⟩
  | 110 => ⟨S1024x1024, .f32⟩
  | 111 => ⟨S8192x1024, .f32⟩
  | 112 => ⟨S1x1024, .f32⟩
  | 113 => ⟨S8192x1024, .f32⟩
  | 114 => ⟨S8192x1024, .f32⟩
  | 115 => ⟨S2x4096x1024, .f32⟩
  | 116 => ⟨S2x4096x16x64, .f32⟩
  | 117 => ⟨S4096, .f32⟩
  | 118 => ⟨S1x4096x1, .f32⟩
  | 119 => ⟨S2x4096x16, .f32⟩
  | 120 => ⟨S2x4096x16, .f32⟩
  | 121 => ⟨S16, .i32⟩
  | 122 => ⟨S16, .f32⟩
  | 123 => ⟨S_, .f32⟩
  | 124 => ⟨S16, .f32⟩
  | 125 => ⟨S16, .f32⟩
  | 126 => ⟨S1x1x16x1, .f32⟩
  | 127 => ⟨S2x4096x1x16, .f32⟩
  | _ => ⟨S2x4096x1024, .f32⟩

abbrev hbmTy0_1 (i : Nat) : BufTy := match i % 128 with
  | 0 => ⟨S2x4096x16x16, .f32⟩
  | 1 => ⟨S2x4096x16x16, .f32⟩
  | 2 => ⟨S2x4096x16x16, .f32⟩
  | 3 => ⟨S2x4096x16x16, .f32⟩
  | 4 => ⟨S2x4096x16x16, .f32⟩
  | 5 => ⟨S2x4096x16x16, .i32⟩
  | 6 => ⟨S_, .i32⟩
  | 7 => ⟨S2x4096x16x16, .i32⟩
  | 8 => ⟨S2x4096x16x16, .i32⟩
  | 9 => ⟨S_, .i32⟩
  | 10 => ⟨S2x4096x16x16, .i32⟩
  | 11 => ⟨S2x4096x16x16, .i1⟩
  | 12 => ⟨S_, .i32⟩
  | 13 => ⟨S2x4096x16x16, .i32⟩
  | 14 => ⟨S2x4096x16x16, .i1⟩
  | 15 => ⟨S2x4096x16x16, .i1⟩
  | 16 => ⟨S2x4096x16x16, .f32⟩
  | 17 => ⟨S_, .i32⟩
  | 18 => ⟨S2x4096x16x16, .i32⟩
  | 19 => ⟨S2x4096x16x16, .i1⟩
  | 20 => ⟨S_, .i32⟩
  | 21 => ⟨S2x4096x16x16, .i32⟩
  | 22 => ⟨S2x4096x16x16, .i1⟩
  | 23 => ⟨S2x4096x16x16, .i1⟩
  | 24 => ⟨S2x4096x16x16, .f32⟩
  | 25 => ⟨S_, .i32⟩
  | 26 => ⟨S_, .i32⟩
  | 27 => ⟨S_, .i32⟩
  | 28 => ⟨S2x4096x16x16, .i32⟩
  | 29 => ⟨S2x4096x16x16, .i32⟩
  | 30 => ⟨S_, .i32⟩
  | 31 => ⟨S2x4096x16x16, .i32⟩
  | 32 => ⟨S2x4096x16x16, .i32⟩
  | 33 => ⟨S_, .i32⟩
  | 34 => ⟨S_, .i32⟩
  | 35 => ⟨S_, .i32⟩
  | 36 => ⟨S2x4096x16x16, .i32⟩
  | 37 => ⟨S2x4096x16x16, .i32⟩
  | 38 => ⟨S_, .i32⟩
  | 39 => ⟨S2x4096x16x16, .i32⟩
  | 40 => ⟨S2x4096x16x16, .i32⟩
  | 41 => ⟨S2x65536x16, .i32⟩
  | 42 => ⟨S2x65536x16x1, .i32⟩
  | 43 => ⟨S_, .i32⟩
  | 44 => ⟨S2x65536x16x1, .i32⟩
  | 45 => ⟨S2x65536x16x1, .i1⟩
  | 46 => ⟨S_, .i32⟩
  | 47 => ⟨S2x65536x16x1, .i32⟩
  | 48 => ⟨S2x65536x16x1, .i32⟩
  | 49 => ⟨S2x65536x16x1, .i32⟩
  | 50 => ⟨S1, .i32⟩
  | 51 => ⟨S_, .i32⟩
  | 52 => ⟨S2x65536x16x1, .i32⟩
  | 53 => ⟨S2x65536x16x1, .i1⟩
  | 54 => ⟨S1x1x1x1, .i32⟩
  | 55 => ⟨S2x65536x16x1, .i32⟩
  | 56 => ⟨S2x65536x16x1, .i1⟩
  | 57 => ⟨S2x65536x16x1, .i1⟩
  | 58 => ⟨S_, .i1⟩
  | 59 => ⟨S2x65536x16, .i1⟩
  | 60 => ⟨S2x65536x16x64, .f32⟩
  | 61 => ⟨S2x65536x16x64, .i1⟩
  | 62 => ⟨S_, .f32⟩
  | 63 => ⟨S2x65536x16x64, .f32⟩
  | 64 => ⟨S2x65536x16x64, .f32⟩
  | 65 => ⟨S2x4096x16x16x64, .f32⟩
  | 66 => ⟨S_, .f32⟩
  | 67 => ⟨S2x4096x16x16, .f32⟩
  | 68 => ⟨S2x4096x16x16, .f32⟩
  | 69 => ⟨S2x4096x16x16, .f32⟩
  | 70 => ⟨S2x4096x16x16x1, .f32⟩
  | 71 => ⟨S2x4096x16x16x64, .f32⟩
  | 72 => ⟨S2x4096x16x16x64, .f32⟩
  | 73 => ⟨S2x65536x16, .i32⟩
  | 74 => ⟨S2x65536x16x1, .i32⟩
  | 75 => ⟨S_, .i32⟩
  | 76 => ⟨S2x65536x16x1, .i32⟩
  | 77 => ⟨S2x65536x16x1, .i1⟩
  | 78 => ⟨S_, .i32⟩
  | 79 => ⟨S2x65536x16x1, .i32⟩
  | 80 => ⟨S2x65536x16x1, .i32⟩
  | 81 => ⟨S2x65536x16x1, .i32⟩
  | 82 => ⟨S1, .i32⟩
  | 83 => ⟨S_, .i32⟩
  | 84 => ⟨S2x65536x16x1, .i32⟩
  | 85 => ⟨S2x65536x16x1, .i1⟩
  | 86 => ⟨S1x1x1x1, .i32⟩
  | 87 => ⟨S2x65536x16x1, .i32⟩
  | 88 => ⟨S2x65536x16x1, .i1⟩
  | 89 => ⟨S2x65536x16x1, .i1⟩
  | 90 => ⟨S_, .i1⟩
  | 91 => ⟨S2x65536x16, .i1⟩
  | 92 => ⟨S2x65536x16x64, .f32⟩
  | 93 => ⟨S2x65536x16x64, .i1⟩
  | 94 => ⟨S_, .f32⟩
  | 95 => ⟨S2x65536x16x64, .f32⟩
  | 96 => ⟨S2x65536x16x64, .f32⟩
  | 97 => ⟨S2x4096x16x16x64, .f32⟩
  | 98 => ⟨S2x4096x16x16, .f32⟩
  | 99 => ⟨S2x4096x16x16x1, .f32⟩
  | 100 => ⟨S2x4096x16x16x64, .f32⟩
  | 101 => ⟨S2x4096x16x16x64, .f32⟩
  | 102 => ⟨S2x4096x16x16x64, .f32⟩
  | 103 => ⟨S2x4096x1x16, .f32⟩
  | 104 => ⟨S1x1x16x1, .f32⟩
  | 105 => ⟨S2x4096x16x16, .f32⟩
  | 106 => ⟨S2x4096x16x16, .f32⟩
  | 107 => ⟨S2x4096x16x16, .f32⟩
  | 108 => ⟨S2x4096x16x16, .f32⟩
  | 109 => ⟨S2x4096x16x16, .f32⟩
  | 110 => ⟨S_, .f32⟩
  | 111 => ⟨S2x4096x16x16, .f32⟩
  | 112 => ⟨S2x4096x16x16, .f32⟩
  | 113 => ⟨S_, .f32⟩
  | 114 => ⟨S2x4096x16x16, .f32⟩
  | 115 => ⟨S2x4096x16x16, .f32⟩
  | 116 => ⟨S1x1x16x1, .f32⟩
  | 117 => ⟨S_, .f32⟩
  | 118 => ⟨S1x1x16x1, .f32⟩
  | 119 => ⟨S1x1x16x1, .i1⟩
  | 120 => ⟨S1x1x16x1, .f32⟩
  | 121 => ⟨S2x4096x16x16, .f32⟩
  | 122 => ⟨S2x4096x16x16, .f32⟩
  | 123 => ⟨S2x4096x16x16, .f32⟩
  | 124 => ⟨S2x4096x16x16, .f32⟩
  | 125 => ⟨S2x4096x16x16x1, .f32⟩
  | 126 => ⟨S2x4096x16x16x64, .f32⟩
  | 127 => ⟨S2x4096x16x16x64, .f32⟩
  | _ => ⟨S2x4096x1024, .f32⟩

abbrev hbmTy0_2 (i : Nat) : BufTy := match i % 128 with
  | 0 => ⟨S_, .f32⟩
  | 1 => ⟨S2x4096x16x64, .f32⟩
  | 2 => ⟨S2x4096x1024, .f32⟩
  | 3 => ⟨S8192x1024, .f32⟩
  | 4 => ⟨S1024x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S8192x1024, .f32⟩
  | 15 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_c : Ref sig .tc := ⟨.hbm, 134, rfl⟩
abbrev main_v103 : Ref sig .tc := ⟨.hbm, 135, rfl⟩
abbrev main_v104 : Ref sig .tc := ⟨.hbm, 136, rfl⟩
abbrev main_c_17 : Ref sig .tc := ⟨.hbm, 137, rfl⟩
abbrev main_v105 : Ref sig .tc := ⟨.hbm, 138, rfl⟩
abbrev main_v106 : Ref sig .tc := ⟨.hbm, 139, rfl⟩
abbrev main_c_18 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_c_19 : Ref sig .tc := ⟨.hbm, 145, rfl⟩
abbrev main_v111 : Ref sig .tc := ⟨.hbm, 146, rfl⟩
abbrev main_v112 : Ref sig .tc := ⟨.hbm, 147, rfl⟩
abbrev main_c_20 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_c_21 : Ref sig .tc := ⟨.hbm, 153, rfl⟩
abbrev main_c_22 : Ref sig .tc := ⟨.hbm, 154, rfl⟩
abbrev main_call0_v0 : Ref sig .tc := ⟨.hbm, 155, rfl⟩
abbrev main_call0_v1 : Ref sig .tc := ⟨.hbm, 156, rfl⟩
abbrev main_call0_v2 : Ref sig .tc := ⟨.hbm, 157, rfl⟩
abbrev main_call0_v3 : Ref sig .tc := ⟨.hbm, 158, rfl⟩
abbrev main_call0_v4 : Ref sig .tc := ⟨.hbm, 159, rfl⟩
abbrev main_v117 : Ref sig .tc := ⟨.hbm, 160, rfl⟩
abbrev main_c_23 : Ref sig .tc := ⟨.hbm, 161, rfl⟩
abbrev main_c_24 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_call1_v3 : Ref sig .tc := ⟨.hbm, 166, rfl⟩
abbrev main_call1_v4 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_call2_c : Ref sig .tc := ⟨.hbm, 171, rfl⟩
abbrev main_call2_v0 : Ref sig .tc := ⟨.hbm, 172, rfl⟩
abbrev main_call2_v1 : Ref sig .tc := ⟨.hbm, 173, rfl⟩
abbrev main_call2_c_0 : Ref sig .tc := ⟨.hbm, 174, rfl⟩
abbrev main_call2_v2 : Ref sig .tc := ⟨.hbm, 175, rfl⟩
abbrev main_call2_v3 : Ref sig .tc := ⟨.hbm, 176, rfl⟩
abbrev main_call2_v4 : Ref sig .tc := ⟨.hbm, 177, rfl⟩
abbrev main_call2_c_1 : Ref sig .tc := ⟨.hbm, 178, rfl⟩
abbrev main_call2_c_2 : Ref sig .tc := ⟨.hbm, 179, rfl⟩
abbrev main_call2_v5 : Ref sig .tc := ⟨.hbm, 180, rfl⟩
abbrev main_call2_v6 : Ref sig .tc := ⟨.hbm, 181, rfl⟩
abbrev main_call2_v7 : Ref sig .tc := ⟨.hbm, 182, rfl⟩
abbrev main_call2_v8 : Ref sig .tc := ⟨.hbm, 183, rfl⟩
abbrev main_call2_v9 : Ref sig .tc := ⟨.hbm, 184, rfl⟩
abbrev main_call2_v10 : Ref sig .tc := ⟨.hbm, 185, rfl⟩
abbrev main_call2_c_3 : Ref sig .tc := ⟨.hbm, 186, rfl⟩
abbrev main_call2_v11 : Ref sig .tc := ⟨.hbm, 187, rfl⟩
abbrev main_call2_v12 : Ref sig .tc := ⟨.hbm, 188, rfl⟩
abbrev main_call2_v13 : Ref sig .tc := ⟨.hbm, 189, rfl⟩
abbrev main_call2_cst : Ref sig .tc := ⟨.hbm, 190, rfl⟩
abbrev main_call2_v14 : Ref sig .tc := ⟨.hbm, 191, rfl⟩
abbrev main_v121 : Ref sig .tc := ⟨.hbm, 192, rfl⟩
abbrev main_v122 : Ref sig .tc := ⟨.hbm, 193, rfl⟩
abbrev main_cst_25 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_call3_c : Ref sig .tc := ⟨.hbm, 203, rfl⟩
abbrev main_call3_v0 : Ref sig .tc := ⟨.hbm, 204, rfl⟩
abbrev main_call3_v1 : Ref sig .tc := ⟨.hbm, 205, rfl⟩
abbrev main_call3_c_0 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_call3_c_1 : Ref sig .tc := ⟨.hbm, 210, rfl⟩
abbrev main_call3_c_2 : Ref sig .tc := ⟨.hbm, 211, rfl⟩
abbrev main_call3_v5 : Ref sig .tc := ⟨.hbm, 212, rfl⟩
abbrev main_call3_v6 : Ref sig .tc := ⟨.hbm, 213, rfl⟩
abbrev main_call3_v7 : Ref sig .tc := ⟨.hbm, 214, rfl⟩
abbrev main_call3_v8 : Ref sig .tc := ⟨.hbm, 215, rfl⟩
abbrev main_call3_v9 : Ref sig .tc := ⟨.hbm, 216, rfl⟩
abbrev main_call3_v10 : Ref sig .tc := ⟨.hbm, 217, rfl⟩
abbrev main_call3_c_3 : Ref sig .tc := ⟨.hbm, 218, rfl⟩
abbrev main_call3_v11 : Ref sig .tc := ⟨.hbm, 219, rfl⟩
abbrev main_call3_v12 : Ref sig .tc := ⟨.hbm, 220, rfl⟩
abbrev main_call3_v13 : Ref sig .tc := ⟨.hbm, 221, rfl⟩
abbrev main_call3_cst : Ref sig .tc := ⟨.hbm, 222, rfl⟩
abbrev main_call3_v14 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_cst_26 : Ref sig .tc := ⟨.hbm, 238, rfl⟩
abbrev main_v145 : Ref sig .tc := ⟨.hbm, 239, rfl⟩
abbrev main_v146 : Ref sig .tc := ⟨.hbm, 240, rfl⟩
abbrev main_cst_27 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_cst_28 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_29 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_cst_30 : Ref sig .tc := ⟨.hbm, 264, rfl⟩
abbrev main_v167 : Ref sig .tc := ⟨.hbm, 265, rfl⟩
abbrev main_v168 : Ref sig .tc := ⟨.hbm, 266, rfl⟩
abbrev main_cst_31 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩

abbrev nD : Nat := 1
abbrev τ : Topo := Topo.v7x

variable {F : FTy → Type} [FloatOps F]
-- ==== Proof.KSetup.lean ====
/- The conditions under which the two phases of the kernel's body run, the memrefs the body is called with, and the
   invariant of the pipeline with the three scratch buffers spelled out. -/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the points before point 16 — decided over the grid. -/
theorem hcond0_0 : ∀ t : Fin cfg0.N, cond0_0 (grid0.coords t) ↔ t.val < 16 :=
  (by decide +kernel : ∀ t : Fin grid0.N, cond0_0 (grid0.coords t) ↔ t.val < 16)

/-- The condition of the body's `scf.if` 1 (`k0_h2`), from the grid coordinates (the skeleton's scalar
    chain substituted). -/
abbrev cond0_1 (i : grid0.Coords) : Prop := k0_cond2 i = 1#1
/-- It holds at the points from point 16 on — decided over the grid. -/
theorem hcond0_1 : ∀ t : Fin cfg0.N, cond0_1 (grid0.coords t) ↔ 16 ≤ t.val :=
  (by decide +kernel : ∀ t : Fin grid0.N, cond0_1 (grid0.coords t) ↔ 16 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S288x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S288x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1024x8192 .bf16 := Memref.whole cc0_scratch0
abbrev scM0_1 : Memref sig .tc .vmem S272x8192 .bf16 := Memref.whole cc0_scratch1
abbrev scM0_2 : Memref sig .tc .vmem S16x8192 .i32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KRunA.lean ====
/- The run of the kernel body in the projection phase: what it leaves in the scratch buffers is found by the run. -/
module

public import proofs.«01_k».proof.Proof.KSetup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's run in the PROJECTION phase (`s < 16`), with the contents it leaves in the three scratch buffers found by the
    run: the inputs' buffers and the output's are as they were. -/
def kernelRun0_A (c : Dev nD) (i : grid0.Coords) (arg1 : Memref sig .tc .vmem S512x1024 .f32) (harg1 : arg1.IsWhole) (arg2 : Memref sig .tc .vmem S288x1024 .f32) (harg2 : arg2.IsWhole) (arg3 : Memref sig .tc .vmem S1024x1024 .bf16) (harg3 : arg3.IsWhole) (arg4 : Memref sig .tc .vmem S288x1 .f32) (harg4 : arg4.IsWhole) (arg5 : Memref sig .tc .vmem S1024x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S256x1 .f32) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc0 : cond0_0 i) (hc1 : ¬cond0_1 i)
    (x0 : Vec F S512x1024 .f32) (x1 : Vec F S288x1024 .f32) (x2 : Vec F S1024x1024 .bf16) (x3 : Vec F S288x1 .f32) (x4 : Vec F S1024x1 .f32) (x5 : Vec F S16x1 .f32) (x6 : Vec F S16x1 .f32) (x7 : Vec F S256x1 .f32) (x8 : Vec F S1024x1024 .bf16)
    (xo : Vec F S128x1024 .f32) (xs0 : Vec F S1024x8192 .bf16) (xs1 : Vec F S272x8192 .bf16) (xs2 : Vec F S16x8192 .i32) :
      Σ' (d0 : Vec F S1024x8192 .bf16) (d1 : Vec F S272x8192 .bf16), { d2 : Vec F S16x8192 .i32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare d0 ∗ owns (c : Thread nD τ) arg12 fullShare d1 ∗ owns (c : Thread nD τ) arg13 fullShare d2) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
    refine ⟨?_, ?_, ?_, fun E K => ?run⟩
    case run =>
      simp only [cc0__fused_kernel_eq_skeleton]; unfold cc0__fused_kernel_skel
      simp only [k0_part1_eq_skeleton, k0_part2_eq_skeleton, k0_part3_eq_skeleton, k0_part4_eq_skeleton, k0_part5_eq_skeleton, k0_part6_eq_skeleton, k0_part7_eq_skeleton, k0_part8_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hs0, HS0⟩, ⟨%fs1, %hs1, HS1⟩, ⟨%fs2, %hs2, HS2⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hs0; obtain rfl := harg12.eq_unread hs1; obtain rfl := harg13.eq_unread hs2
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; swap; · iexact H9
        ipureintro; exact hf9
      isplitl [HS0]
      · iexists _; isplitr; swap; · iexact HS0
        ipureintro; rfl
      isplitl [HS1]
      · iexists _; isplitr; swap; · iexact HS1
        ipureintro; rfl
      iexists _; isplitr; swap; · iexact HS2
      ipureintro; rfl

end Cert.KernelIdeal.Gen

end
-- ==== Proof.KPhase1.lean ====
/- What one projection point stores: seventeen tiles of weights, one tile of values and one of offsets, each as a function
   of the blocks the point reads. -/
module

public import proofs.«01_k».proof.Proof.KRunA
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-- A whole buffer's contents, read from its first corner at its own extents. -/
theorem readAt_whole {S : Shape} {e : EltTy} (arg : Memref sig .tc .vmem S e) (h : arg.IsWhole) {off : Fin S.rank → ℕ}
    (hz : off = fun _ => 0) (inb : ∀ a, off a + S.size a ≤ S.size a) (x : Vec F S e) :
    View.readAt (Elt F) arg.view (Rect.unit off S.size inb).toLoadRect (h.unread x) = x := by
  rw [View.readAt_eq_ld, h.read_unread, View.ld_unit_zero (S := S) hz]

/-- The distance of tap `k` from the middle tap, as the bits of a float. -/
def relBits : Fin 16 → BitVec 32 :=
  ![0x41000000#32, 0x40E00000#32, 0x40C00000#32, 0x40A00000#32, 0x40800000#32, 0x40400000#32, 0x40000000#32, 0x3F800000#32,
    0x00000000#32, 0x3F800000#32, 0x40000000#32, 0x40400000#32, 0x40800000#32, 0x40A00000#32, 0x40C00000#32, 0x40E00000#32]

/-- The sixteen rows of tap `k` among the 256 rows of kernel logits. -/
theorem slices_tap (k : Fin 16) : S256x512.Slices ![16 * k.val, 0] S16x512 :=
  ⟨by decide, Fin.forall_fin_two.mpr ⟨by show 16 * k.val + 16 ≤ 256; omega, by show 0 + 512 ≤ 512; omega⟩⟩

/-- The weights of tap `k` of one projection point: its kernel values times the window's mask. -/
def wmsOf (hw : FVec F S16x512 .f32) (kn : FVec F S256x512 .f32) (k : Fin 16) : FVec F S16x512 .f32 :=
  mulf (mulf (extractStridedSlice S16x512 ![16 * k.val, 0] kn (slices_tap k))
    (logistic (subf hw (broadcast S16x512 (Scalar.ofBits .f32 (relBits k)))))) (broadcast S16x512 (Scalar.ofBits .f32 0x3F800000#32))

/-- The weight of source position `j` of one projection point: tap `j` from the left and tap `j - 1` from the right. -/
def gOf (fr : FVec F S16x512 .f32) (w : Fin 16 → FVec F S16x512 .f32) (j : Fin 17) : FVec F S16x512 .bf16 :=
  shapeCast S16x512 (truncf .bf16
    (if h0 : j.val = 0 then addf (broadcast S16x512 (Scalar.ofBits .f32 0x00000000#32)) (mulf (w 0) (k0_pay38 fr))
     else if h1 : j.val < 16 then
       addf (addf (broadcast S16x512 (Scalar.ofBits .f32 0x00000000#32)) (mulf (w ⟨j.val, h1⟩) (k0_pay38 fr))) (mulf (w ⟨j.val - 1, by omega⟩) fr)
     else addf (broadcast S16x512 (Scalar.ofBits .f32 0x00000000#32)) (mulf (w 15) fr)) bitsLt_bf16_f32) shapeCasts_S16x512_S16x512

/-- The weights one projection point stores, from the blocks it reads. -/
def gPt (x0 : Vec F S512x1024 .f32) (x1 : Vec F S288x1024 .f32) (x3 : Vec F S288x1 .f32) (x5 : Vec F S16x1 .f32) (x6 : Vec F S16x1 .f32) (x7 : Vec F S256x1 .f32) (j : Fin 17) : FVec F S16x512 .bf16 :=
  gOf (k0_pay16 (k0_pay8 x0 x1 x3) x6) (wmsOf (k0_pay12 (k0_pay10 x0 x1 x3) (k0_pay11 x5)) (k0_pay14 (k0_pay9 x0 x1 x3) x7)) j

/-- The whole parts of the offsets one projection point stores. -/
def cPt (x0 : Vec F S512x1024 .f32) (x1 : Vec F S288x1024 .f32) (x3 : Vec F S288x1 .f32) (x6 : Vec F S16x1 .f32) : IVec S16x512 32 :=
  k0_pay18 (k0_pay17 (k0_pay8 x0 x1 x3) x6)

/-- The first column a projection point stores to. -/
def col0 (i : grid0.Coords) : ℕ := k0_off1 i 1

theorem gtile_inb (i : grid0.Coords) (hc0 : cond0_0 i) (j : Fin 17) (a : Fin 2) :
    (![16 * j.val, col0 i] : Fin 2 → ℕ) a + (![16, 512] : Fin 2 → ℕ) a ≤ S272x8192.size a := by
  revert a
  exact Fin.forall_fin_two.mpr ⟨by show 16 * j.val + 16 ≤ 272; omega, k0_off1_inb i hc0 1⟩

section Stores

variable  (c : Dev nD) (i : grid0.Coords) (arg1 : Memref sig .tc .vmem S512x1024 .f32) (harg1 : arg1.IsWhole) (arg2 : Memref sig .tc .vmem S288x1024 .f32) (harg2 : arg2.IsWhole) (arg3 : Memref sig .tc .vmem S1024x1024 .bf16) (harg3 : arg3.IsWhole) (arg4 : Memref sig .tc .vmem S288x1 .f32) (harg4 : arg4.IsWhole) (arg5 : Memref sig .tc .vmem S1024x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S256x1 .f32) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc0 : cond0_0 i) (hc1 : ¬cond0_1 i)
    (x0 : Vec F S512x1024 .f32) (x1 : Vec F S288x1024 .f32) (x2 : Vec F S1024x1024 .bf16) (x3 : Vec F S288x1 .f32) (x4 : Vec F S1024x1 .f32) (x5 : Vec F S16x1 .f32) (x6 : Vec F S16x1 .f32) (x7 : Vec F S256x1 .f32) (x8 : Vec F S1024x1024 .bf16)
    (xo : Vec F S128x1024 .f32) (xs0 : Vec F S1024x8192 .bf16) (xs1 : Vec F S272x8192 .bf16) (xs2 : Vec F S16x8192 .i32)

/-- The window's half width that the run computes. -/
theorem runA_hw : kernelRun0_A.sl.r_4 c arg1 harg1 arg2 harg2 arg4 harg4 arg6 harg6 x0 x1 x3 x5 = k0_pay12 (k0_pay10 x0 x1 x3) (k0_pay11 x5) := by
  unfold kernelRun0_A.sl.r_4 kernelRun0_A.sl.r_2 kernelRun0_A.sl.r_3
  exact congrArg₂ k0_pay12 (congr (congrArg₂ k0_pay10 (readAt_whole arg1 harg1 hz2 _ x0) (readAt_whole arg2 harg2 hz2 _ x1)) (readAt_whole arg4 harg4 hz2 _ x3)) (congrArg k0_pay11 (readAt_whole arg6 harg6 hz2 _ x5))
/-- The kernel values that the run computes. -/
theorem runA_kn : kernelRun0_A.sl.r_5 c arg1 harg1 arg2 harg2 arg4 harg4 arg8 harg8 x0 x1 x3 x7 = k0_pay14 (k0_pay9 x0 x1 x3) x7 := by
  unfold kernelRun0_A.sl.r_5 kernelRun0_A.sl.r_1
  exact congrArg₂ k0_pay14 (congr (congrArg₂ k0_pay9 (readAt_whole arg1 harg1 hz2 _ x0) (readAt_whole arg2 harg2 hz2 _ x1)) (readAt_whole arg4 harg4 hz2 _ x3)) (readAt_whole arg8 harg8 hz2 _ x7)
/-- The fractional parts that the run computes. -/
theorem runA_fr : kernelRun0_A.sl.r_6 c arg1 harg1 arg2 harg2 arg4 harg4 arg7 harg7 x0 x1 x3 x6 = k0_pay16 (k0_pay8 x0 x1 x3) x6 := by
  unfold kernelRun0_A.sl.r_6 kernelRun0_A.sl.r
  exact congrArg₂ k0_pay16 (congr (congrArg₂ k0_pay8 (readAt_whole arg1 harg1 hz2 _ x0) (readAt_whole arg2 harg2 hz2 _ x1)) (readAt_whole arg4 harg4 hz2 _ x3)) (readAt_whole arg7 harg7 hz2 _ x6)
/-- The whole parts that the run computes. -/
theorem runA_fl : kernelRun0_A.sl.r_7 c arg1 harg1 arg2 harg2 arg4 harg4 arg7 harg7 x0 x1 x3 x6 = k0_pay17 (k0_pay8 x0 x1 x3) x6 := by
  unfold kernelRun0_A.sl.r_7 kernelRun0_A.sl.r
  exact congrArg₂ k0_pay17 (congr (congrArg₂ k0_pay8 (readAt_whole arg1 harg1 hz2 _ x0) (readAt_whole arg2 harg2 hz2 _ x1)) (readAt_whole arg4 harg4 hz2 _ x3)) (readAt_whole arg7 harg7 hz2 _ x6)

set_option maxHeartbeats 1000000 in
/-- The weights the run stores are the seventeen tiles of `gPt`. -/
theorem runA_g :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo xs0 xs1 xs2).2.1
      = View.read (Elt F) arg12.view (arg12.view.writes (Elt F) (harg12.unread xs1)
          (View.tilePieces (s := S272x8192) (Val := Elt F) (e := .bf16) ![16, 512] (fun j : Fin 17 => ![16 * j.val, col0 i]) (gtile_inb i hc0)
            (fun j => gPt x0 x1 x3 x5 x6 x7 j) 17 le_rfl)) := by
  unfold kernelRun0_A gPt
  dsimp only
  simp only [kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, runA_hw, runA_kn, runA_fr]
  generalize k0_pay12 (k0_pay10 x0 x1 x3) (k0_pay11 x5) = hw
  generalize k0_pay14 (k0_pay9 x0 x1 x3) x7 = kn
  generalize k0_pay16 (k0_pay8 x0 x1 x3) x6 = fr
  refine congrArg (fun L => View.read (Elt F) arg12.view (arg12.view.writes (Elt F) (harg12.unread xs1) L)) ?_
  rfl

/-- The values the run stores. -/
theorem runA_v :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo xs0 xs1 xs2).1
      = View.read (Elt F) arg11.view (arg11.view.writes (Elt F) (harg11.unread xs0)
          [⟨Rect.unit (s := S1024x8192) (k0_off1 i) ![1024, 512] (k0_off1_inb i hc0), k0_pay7 x0 x2 x4⟩]) := by
  unfold kernelRun0_A
  exact congrArg (fun P => View.read (Elt F) arg11.view (arg11.view.writes (Elt F) (harg11.unread xs0)
          [⟨Rect.unit (s := S1024x8192) (k0_off1 i) ![1024, 512] (k0_off1_inb i hc0), P⟩]))
    (congr (congrArg₂ k0_pay7 (readAt_whole arg1 harg1 hz2 _ x0) (readAt_whole arg3 harg3 hz2 _ x2)) (readAt_whole arg5 harg5 hz2 _ x4))

/-- The whole parts of the offsets the run stores. -/
theorem runA_c :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo xs0 xs1 xs2).2.2.1
      = View.read (Elt F) arg13.view (arg13.view.writes (Elt F) (harg13.unread xs2)
          [⟨Rect.unit (s := S16x8192) (k0_off2 i) ![16, 512] (k0_off2_inb i hc0), cPt x0 x1 x3 x6⟩]) := by
  unfold kernelRun0_A
  dsimp only
  rw [runA_fl]
  rfl

end Stores

end Cert.KernelIdeal.Gen

end
-- ==== Proof.KRunB.lean ====
/- The run of the kernel body in the convolution phase: the block it leaves in the output is found by the run. -/
module

public import proofs.«01_k».proof.Proof.KRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4028000 in
/-- The body's run in the CONVOLUTION phase (`s ≥ 16`), with the block it leaves in the output's buffer found by the run:
    the inputs' buffers and the three scratch buffers are as they were. -/
def kernelRun0_B (c : Dev nD) (i : grid0.Coords) (arg1 : Memref sig .tc .vmem S512x1024 .f32) (harg1 : arg1.IsWhole) (arg2 : Memref sig .tc .vmem S288x1024 .f32) (harg2 : arg2.IsWhole) (arg3 : Memref sig .tc .vmem S1024x1024 .bf16) (harg3 : arg3.IsWhole) (arg4 : Memref sig .tc .vmem S288x1 .f32) (harg4 : arg4.IsWhole) (arg5 : Memref sig .tc .vmem S1024x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S256x1 .f32) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc0 : ¬cond0_0 i) (hc1 : cond0_1 i)
    (x0 : Vec F S512x1024 .f32) (x1 : Vec F S288x1024 .f32) (x2 : Vec F S1024x1024 .bf16) (x3 : Vec F S288x1 .f32) (x4 : Vec F S1024x1 .f32) (x5 : Vec F S16x1 .f32) (x6 : Vec F S16x1 .f32) (x7 : Vec F S256x1 .f32) (x8 : Vec F S1024x1024 .bf16)
    (xo : Vec F S128x1024 .f32) (xs0 : Vec F S1024x8192 .bf16) (xs1 : Vec F S272x8192 .bf16) (xs2 : Vec F S16x8192 .i32) :
      { w : Vec F S128x1024 .f32 // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare w ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13) K } := by
    refine ⟨?_, fun E K => ?run⟩
    case run =>
      simp only [cc0__fused_kernel_eq_skeleton]; unfold cc0__fused_kernel_skel
      simp only [k0_part121_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part122_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hs0, HS0⟩, ⟨%fs1, %hs1, HS1⟩, ⟨%fs2, %hs2, HS2⟩, Hk⟩
      obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hs0; obtain rfl := harg12.eq_unread hs1; obtain rfl := harg13.eq_unread hs2
      sl_exec (disch := first | sl_exact hc0 | sl_exact hc1)
      sl_step
      iapply Hk
      isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      isplitl [H5]
      · iexists _; isplitr; · ipureintro; exact harg6.read_unread _
        iexact H5
      isplitl [H6]
      · iexists _; isplitr; · ipureintro; exact harg7.read_unread _
        iexact H6
      isplitl [H7]
      · iexists _; isplitr; · ipureintro; exact harg8.read_unread _
        iexact H7
      isplitl [H8]
      · iexists _; isplitr; · ipureintro; exact harg9.read_unread _
        iexact H8
      isplitl [H9]
      · iexists _; isplitr; swap; · iexact H9
        ipureintro; rfl
      isplitl [HS0]
      · iexists _; isplitr; swap; · iexact HS0
        ipureintro; exact harg11.read_unread _
      isplitl [HS1]
      · iexists _; isplitr; swap; · iexact HS1
        ipureintro; exact harg12.read_unread _
      iexists _; isplitr; swap; · iexact HS2
      ipureintro; exact harg13.read_unread _

end Cert.KernelIdeal.Gen

end
-- ==== Proof.KHead.lean ====
/- One head of the convolution phase, stated once for every head: the band matrix as a chain of seventeen selects and the
   three products of a piece of values with its band. The block the run finds is the sixteen heads, concatenated and
   projected (`outB_eq`). -/
module

public import proofs.«01_k».proof.Proof.KRunB
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first column of the block of positions that point `i` computes. -/
def m0 (i : grid0.Coords) : ℕ := k0_off20 i 1
/-- The first column of the `r`-th of the three pieces of values that point `i` reads. -/
def p0 (i : grid0.Coords) (r : Fin 3) : ℕ := k0_off38 i (BitVec.ofNat 32 (128 * r.val)) 1

theorem m0_le (i : grid0.Coords) (hc1 : cond0_1 i) : m0 i + 128 ≤ 8192 := k0_off20_inb i hc1 1
theorem p0_le (i : grid0.Coords) (hc1 : cond0_1 i) (r : Fin 3) : p0 i r + 128 ≤ 8192 := k0_off38_inb i hc1 r 1

/-- The rows of the offset scratch: row `h`, at the block's positions. -/
theorem c_inb (i : grid0.Coords) (hc1 : cond0_1 i) (h : Fin 16) :
    ∀ a : Fin 2, (![h.val, m0 i] : Fin 2 → ℕ) a + S1x128.size a ≤ S16x8192.size a :=
  Fin.forall_fin_two.mpr ⟨h.isLt, m0_le i hc1⟩
/-- The rows of the weight scratch: row `16 j + h`, at the block's positions. -/
theorem g_inb (i : grid0.Coords) (hc1 : cond0_1 i) (h : Fin 16) (j : Fin 17) :
    ∀ a : Fin 2, (![16 * j.val + h.val, m0 i] : Fin 2 → ℕ) a + S1x128.size a ≤ S272x8192.size a :=
  Fin.forall_fin_two.mpr ⟨by show 16 * j.val + h.val + 1 ≤ 272; omega, m0_le i hc1⟩
/-- The rows of the value scratch: the 64 rows of head `h`, at a piece's positions. -/
theorem v_inb (i : grid0.Coords) (hc1 : cond0_1 i) (h : Fin 16) (r : Fin 3) :
    ∀ a : Fin 2, (![64 * h.val, p0 i r] : Fin 2 → ℕ) a + S64x128.size a ≤ S1024x8192.size a :=
  Fin.forall_fin_two.mpr ⟨by show 64 * h.val + 64 ≤ 1024; omega, p0_le i hc1 r⟩

/-- The band matrix of the difference matrix `d` and the rows `g` of weights, its first `n` selects: where `d` is `j`, row `j`. -/
def bandTo (d : IVec S128x128 16) (g : ℕ → Vec F S1x128 .bf16) : ℕ → FVec F S128x128 .bf16
  | 0 => broadcast S128x128 (Scalar.ofBits .bf16 0x0000#16)
  | n + 1 => select (cmpi .eq d (broadcast S128x128 (BitVec.ofNat 16 n)))
      (broadcastTo S128x128 (shapeCast S1x128 (g n) shapeCasts_S1x128_S1x128) broadcasts_S1x128_S128x128) (bandTo d g n)

/-- The difference matrix of piece `r`: the source position less the first tap's position, as 16-bit integers. -/
def diffOf (base : IVec S1x128 16) (r : ℕ) : IVec S128x128 16 :=
  subi (broadcastTo S128x128 (addi (trunci 16 (iota .tc S128x1 32 [0] iota_S128x1_d0_w32) natLt_16_32) (broadcast S128x1 (BitVec.ofNat 16 (128 * r)))) broadcasts_S128x1_S128x128)
    (broadcastTo S128x128 base broadcasts_S1x128_S128x128)

/-- The first tap's position relative to the first piece, as 16-bit integers, of a row `c` of offsets. -/
def baseOf (i : grid0.Coords) (c : Vec F S1x128 .i32) : IVec S1x128 16 :=
  trunci 16 (addi (iota .tc S1x128 32 [1] iota_S1x128_d1_w32) (addi c (broadcast S1x128 (kernelRun0_B.sl.v50 i)))) natLt_16_32

/-- A head: the three products of a piece of values with its band, added up, and rounded. -/
def headOf (base : IVec S1x128 16) (g : ℕ → Vec F S1x128 .bf16) (v : Fin 3 → Vec F S64x128 .bf16) : FVec F S64x128 .bf16 :=
  truncf .bf16 (addf (addf (addf (broadcast S64x128 (Scalar.ofBits .f32 0x00000000#32))
    (matmul dot_S64x128_S128x128_S64x128_1_0_0_1_n_n none (v 0) (bandTo (diffOf base 0) g 17) (constant S64x128 .f32 0x00000000#32)))
    (matmul dot_S64x128_S128x128_S64x128_1_0_0_1_n_n none (v 1) (bandTo (diffOf base 1) g 17) (constant S64x128 .f32 0x00000000#32)))
    (matmul dot_S64x128_S128x128_S64x128_1_0_0_1_n_n none (v 2) (bandTo (diffOf base 2) g 17) (constant S64x128 .f32 0x00000000#32))) bitsLt_bf16_f32

/-- Head `h` of the block that point `i` computes, read off the three scratch buffers. -/
def headAt (i : grid0.Coords) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc1 : cond0_1 i) (xs0 : Vec F S1024x8192 .bf16) (xs1 : Vec F S272x8192 .bf16) (xs2 : Vec F S16x8192 .i32) (h : Fin 16) : FVec F S64x128 .bf16 :=
  headOf (baseOf (F := F) i (View.readAt (Elt F) arg13.view (Rect.unit (s := S16x8192) ![h.val, m0 i] S1x128.size (c_inb i hc1 h)).toLoadRect (harg13.unread xs2)))
    (fun j => if hj : j < 17 then View.readAt (Elt F) arg12.view (Rect.unit (s := S272x8192) ![16 * j + h.val, m0 i] S1x128.size (g_inb i hc1 h ⟨j, hj⟩)).toLoadRect (harg12.unread xs1)
      else broadcast S1x128 (Scalar.ofBits .bf16 0x0000#16))
    (fun r => View.readAt (Elt F) arg11.view (Rect.unit (s := S1024x8192) ![64 * h.val, p0 i r] S64x128.size (v_inb i hc1 h r)).toLoadRect (harg11.unread xs0))

theorem hz : (![0, 0] : Fin 2 → Nat) = fun _ => 0 := funext fun a => by fin_cases a <;> rfl

/-- The block of hidden values: the sixteen heads, one below the other. -/
def hiddenAt (i : grid0.Coords) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc1 : cond0_1 i) (xs0 : Vec F S1024x8192 .bf16) (xs1 : Vec F S272x8192 .bf16) (xs2 : Vec F S16x8192 .i32) : FVec F S1024x128 .bf16 :=
  concatenate S1024x128 0 (List.ofFn fun h : Fin 16 => (⟨S64x128, headAt i arg11 harg11 arg12 harg12 arg13 harg13 hc1 xs0 xs1 xs2 h⟩ : (s : Shape) × (s.Idx → F .bf16)))
    concatenates_S64x128_S64x128_S64x128_S64x128_S64x128_S64x128_S64x128_S64x128_S64x128_S64x128_S64x128_S64x128_S64x128_S64x128_S64x128_S64x128_S1024x128_d0

set_option maxHeartbeats 4000000 in
/-- The block the run finds: the hidden values against the rows of the output weights, through the gate. -/
theorem outB_eq  (c : Dev nD) (i : grid0.Coords) (arg1 : Memref sig .tc .vmem S512x1024 .f32) (harg1 : arg1.IsWhole) (arg2 : Memref sig .tc .vmem S288x1024 .f32) (harg2 : arg2.IsWhole) (arg3 : Memref sig .tc .vmem S1024x1024 .bf16) (harg3 : arg3.IsWhole) (arg4 : Memref sig .tc .vmem S288x1 .f32) (harg4 : arg4.IsWhole) (arg5 : Memref sig .tc .vmem S1024x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S256x1 .f32) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc0 : ¬cond0_0 i) (hc1 : cond0_1 i)
    (x0 : Vec F S512x1024 .f32) (x1 : Vec F S288x1024 .f32) (x2 : Vec F S1024x1024 .bf16) (x3 : Vec F S288x1 .f32) (x4 : Vec F S1024x1 .f32) (x5 : Vec F S16x1 .f32) (x6 : Vec F S16x1 .f32) (x7 : Vec F S256x1 .f32) (x8 : Vec F S1024x1024 .bf16)
    (xo : Vec F S128x1024 .f32) (xs0 : Vec F S1024x8192 .bf16) (xs1 : Vec F S272x8192 .bf16) (xs2 : Vec F S16x8192 .i32)  :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xo xs0 xs1 xs2).1 = k0_pay4 (hiddenAt i arg11 harg11 arg12 harg12 arg13 harg13 hc1 xs0 xs1 xs2) x8 := by
  unfold kernelRun0_B
  dsimp only
  funext y
  refine (View.read_writes_cons_unit_of_mem _ _ _ _ _ y y (off' := fun _ => 0) hz (fun a => (Nat.zero_add _).symm)).trans ?_
  refine congrFun (congrArg₂ k0_pay4 ?_ ?_) y
  · rfl
  · rw [View.readAt_eq_ld, harg9.read_unread, View.ld_unit_zero (S := S1024x1024) hz]

end Cert.KernelIdeal.Gen

end
-- ==== Proof.KTables.lean ====
/- The three tables that the projection phase fills, column by column, and that each projection point extends them by
   its own 512 columns. -/
module

public import proofs.«01_k».proof.Proof.KPhase1
public import proofs.«01_k».proof.Proof.KHead
public import Idealize.ShloMosaic.Lib.ValueIdx
public import Idealize.ShloMosaic.Lib.ValueIdxCoords
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

variable (m : (ℓ : Loc nD τ sig) → Buf (Elt F) ℓ)

/-- A projection point's first column. -/
theorem col0_eq : ∀ t : Fin cfg0.N, t.val < 16 → k0_off1 (grid0.coords t) 1 = 512 * t.val ∧ k0_off2 (grid0.coords t) 1 = 512 * t.val :=
  (by decide +kernel : ∀ t : Fin grid0.N, t.val < 16 → k0_off1 (grid0.coords t) 1 = 512 * t.val ∧ k0_off2 (grid0.coords t) 1 = 512 * t.val)

/-- The projection point that computes column `n` of the tables. -/
def ptOf (n : Fin 8192) : Fin cfg0.N := ⟨n.val / 512, lt_of_lt_of_eq (by omega : n.val / 512 < 80) N_0.symm⟩

/-- The column inside the block of that point. -/
def colOf (n : Fin 8192) : Fin 512 := ⟨n.val % 512, Nat.mod_lt _ (by decide)⟩

/-- The whole table of values. -/
def VT (c : Dev nD) : Vec F S1024x8192 .bf16 := fun y =>
  k0_pay7 (iblk m c 0 (ptOf (y 1))) (iblk m c 2 (ptOf (y 1))) (iblk m c 4 (ptOf (y 1))) (ix2 (y 0) (colOf (y 1)))

/-- The whole table of weights: row `16 j + h` holds source position `j`'s weights of head `h`. -/
def GT (c : Dev nD) : Vec F S272x8192 .bf16 := fun y =>
  gPt (iblk m c 0 (ptOf (y 1))) (iblk m c 1 (ptOf (y 1))) (iblk m c 3 (ptOf (y 1))) (iblk m c 5 (ptOf (y 1))) (iblk m c 6 (ptOf (y 1))) (iblk m c 7 (ptOf (y 1)))
    ⟨(y 0).val / 16, by have := idx2_lt0 y; omega⟩ (ix2 ⟨(y 0).val % 16, Nat.mod_lt _ (by decide)⟩ (colOf (y 1)))

/-- The whole table of the offsets' whole parts. -/
def CT (c : Dev nD) : Vec F S16x8192 .i32 := fun y =>
  cPt (F := F) (iblk m c 0 (ptOf (y 1))) (iblk m c 1 (ptOf (y 1))) (iblk m c 3 (ptOf (y 1))) (iblk m c 6 (ptOf (y 1))) (ix2 (y 0) (colOf (y 1)))

/-- Two contents of a buffer of 8192 columns agree on the columns of the first `n` projection points. -/
def AgreeTo {R : ℕ} {α : Type} (n : ℕ) (d S : (⟨2, ![R, 8192]⟩ : Shape).Idx → α) : Prop := ∀ y, (y 1).val < 512 * n → d y = S y

theorem agree_zero {R : ℕ} {α : Type} (d S : (⟨2, ![R, 8192]⟩ : Shape).Idx → α) : AgreeTo 0 d S := fun y h => absurd h (by omega)

theorem agree_full {R : ℕ} {α : Type} {n : ℕ} (hn : 16 ≤ n) {d S : (⟨2, ![R, 8192]⟩ : Shape).Idx → α} (h : AgreeTo n d S) : d = S :=
  funext fun y => h y (by have := idx2_lt1 y; omega)

theorem agree_of_full {R : ℕ} {α : Type} (n : ℕ) (S : (⟨2, ![R, 8192]⟩ : Shape).Idx → α) : AgreeTo n S S := fun y _ => rfl

theorem ptOf_eq (t : Fin cfg0.N) (n : Fin 8192) (h0 : 512 * t.val ≤ n.val) (h1 : n.val < 512 * (t.val + 1)) : ptOf n = t :=
  Fin.ext (by show n.val / 512 = t.val; omega)

/-- One store of a tile of 512 columns, into a buffer that agrees with a table so far: it agrees one point further. -/
theorem agree_store {R : ℕ} {e : EltTy} (arg : Memref sig .tc .vmem ⟨2, ![R, 8192]⟩ e) (harg : arg.IsWhole) (t : Fin cfg0.N)
    (xs S : Vec F ⟨2, ![R, 8192]⟩ e) (off : Fin 2 → ℕ) (h0 : off 0 = 0) (h1 : off 1 = 512 * t.val) (inb)
    (w : (⟨2, ![R, 512]⟩ : Shape).Idx → Elt F e) (hw : ∀ y : (⟨2, ![R, 8192]⟩ : Shape).Idx, ptOf (y 1) = t → S y = w (ix2 (y 0) (colOf (y 1))))
    (h : AgreeTo t.val xs S) :
    AgreeTo (t.val + 1) (View.read (Elt F) arg.view (arg.view.writes (Elt F) (harg.unread xs)
      [⟨Rect.unit (s := ⟨2, ![R, 8192]⟩) off ![R, 512] inb, w⟩])) S := by
  intro y hy
  have ho : off = ![0, 512 * t.val] := funext (Fin.forall_fin_two.mpr ⟨h0, h1⟩)
  by_cases hlt : (y 1).val < 512 * t.val
  · rw [View.read_writes_cons_unit_of_not_mem _ _ _ _ _ y ho (1 : Fin 2) (Or.inl hlt)]
    show View.read (Elt F) arg.view (harg.unread xs) y = _
    rw [harg.read_unread]
    exact h y hlt
  · have hp : ptOf (y 1) = t := ptOf_eq t _ (Nat.le_of_not_lt hlt) hy
    rw [hw y hp]
    refine View.read_writes_cons_unit_of_mem _ _ inb w _ y (ix2 (y 0) (colOf (y 1))) ho (Fin.forall_fin_two.mpr ⟨?_, ?_⟩)
    · show (y 0).val = 0 + (y 0).val
      omega
    · show (y 1).val = 512 * t.val + (y 1).val % 512
      have : (y 1).val / 512 = t.val := congrArg Fin.val hp
      omega

section Stores

variable  (c : Dev nD) (t : Fin cfg0.N) (arg1 : Memref sig .tc .vmem S512x1024 .f32) (harg1 : arg1.IsWhole) (arg2 : Memref sig .tc .vmem S288x1024 .f32) (harg2 : arg2.IsWhole) (arg3 : Memref sig .tc .vmem S1024x1024 .bf16) (harg3 : arg3.IsWhole) (arg4 : Memref sig .tc .vmem S288x1 .f32) (harg4 : arg4.IsWhole) (arg5 : Memref sig .tc .vmem S1024x1 .f32) (harg5 : arg5.IsWhole) (arg6 : Memref sig .tc .vmem S16x1 .f32) (harg6 : arg6.IsWhole) (arg7 : Memref sig .tc .vmem S16x1 .f32) (harg7 : arg7.IsWhole) (arg8 : Memref sig .tc .vmem S256x1 .f32) (harg8 : arg8.IsWhole) (arg9 : Memref sig .tc .vmem S1024x1024 .bf16) (harg9 : arg9.IsWhole) (arg10 : Memref sig .tc .vmem S128x1024 .f32) (harg10 : arg10.IsWhole) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc0 : cond0_0 (grid0.coords t)) (hc1 : ¬cond0_1 (grid0.coords t))
    (x0 : Vec F S512x1024 .f32) (x1 : Vec F S288x1024 .f32) (x2 : Vec F S1024x1024 .bf16) (x3 : Vec F S288x1 .f32) (x4 : Vec F S1024x1 .f32) (x5 : Vec F S16x1 .f32) (x6 : Vec F S16x1 .f32) (x7 : Vec F S256x1 .f32) (x8 : Vec F S1024x1024 .bf16)
    (xo : Vec F S128x1024 .f32) (xs0 : Vec F S1024x8192 .bf16) (xs1 : Vec F S272x8192 .bf16) (xs2 : Vec F S16x8192 .i32)

/-- The value table after a projection point. -/
theorem agree_v (h : AgreeTo t.val xs0 (VT m c)) :
    AgreeTo (t.val + 1) (kernelRun0_A c (grid0.coords t) arg1 harg1 arg2 harg2 arg3 harg3 arg4 harg4 arg5 harg5 arg6 harg6 arg7 harg7 arg8 harg8 arg9 harg9 arg10 harg10 arg11 harg11 arg12 harg12 arg13 harg13 hc0 hc1 (iblk m c 0 t) (iblk m c 1 t) (iblk m c 2 t) (iblk m c 3 t) (iblk m c 4 t) (iblk m c 5 t) (iblk m c 6 t) (iblk m c 7 t) (iblk m c 8 t) xo xs0 xs1 xs2).1 (VT m c) := by
  rw [runA_v]
  refine agree_store arg11 harg11 t xs0 (VT m c) _ rfl (col0_eq t ((hcond0_0 t).mp hc0)).1 _ _ (fun y hy => ?_) h
  show k0_pay7 _ _ _ _ = _
  rw [hy]

/-- The table of offsets after a projection point. -/
theorem agree_c (h : AgreeTo t.val xs2 (CT m c)) :
    AgreeTo (t.val + 1) (kernelRun0_A c (grid0.coords t) arg1 harg1 arg2 harg2 arg3 harg3 arg4 harg4 arg5 harg5 arg6 harg6 arg7 harg7 arg8 harg8 arg9 harg9 arg10 harg10 arg11 harg11 arg12 harg12 arg13 harg13 hc0 hc1 (iblk m c 0 t) (iblk m c 1 t) (iblk m c 2 t) (iblk m c 3 t) (iblk m c 4 t) (iblk m c 5 t) (iblk m c 6 t) (iblk m c 7 t) (iblk m c 8 t) xo xs0 xs1 xs2).2.2.1 (CT m c) := by
  rw [runA_c]
  refine agree_store arg13 harg13 t xs2 (CT m c) _ rfl (col0_eq t ((hcond0_0 t).mp hc0)).2 _ _ (fun y hy => ?_) h
  show cPt _ _ _ _ _ = _
  rw [hy]

/-- The table of weights after a projection point. -/
theorem agree_g (h : AgreeTo t.val xs1 (GT m c)) :
    AgreeTo (t.val + 1) (kernelRun0_A c (grid0.coords t) arg1 harg1 arg2 harg2 arg3 harg3 arg4 harg4 arg5 harg5 arg6 harg6 arg7 harg7 arg8 harg8 arg9 harg9 arg10 harg10 arg11 harg11 arg12 harg12 arg13 harg13 hc0 hc1 (iblk m c 0 t) (iblk m c 1 t) (iblk m c 2 t) (iblk m c 3 t) (iblk m c 4 t) (iblk m c 5 t) (iblk m c 6 t) (iblk m c 7 t) (iblk m c 8 t) xo xs0 xs1 xs2).2.1 (GT m c) := by
  rw [runA_g]
  intro y hy
  have hc := (col0_eq t ((hcond0_0 t).mp hc0)).1
  by_cases hlt : (y 1).val < 512 * t.val
  · refine (View.read_tilePieces_miss _ _ _ _ _ _ 17 le_rfl y (1 : Fin 2) (fun j _ => Or.inl ?_)).trans ?_
    · show (y 1).val < k0_off1 (grid0.coords t) 1
      rw [hc]; exact hlt
    · rw [harg12.read_unread]
      exact h y hlt
  · have hp : ptOf (y 1) = t := ptOf_eq t _ (Nat.le_of_not_lt hlt) hy
    have h0 := idx2_lt0 y
    refine (View.read_tilePieces _ _ _ _ _ _ 17 le_rfl y ⟨(y 0).val / 16, by omega⟩ (by show (y 0).val / 16 < 17; omega)
      (ix2 ⟨(y 0).val % 16, Nat.mod_lt _ (by decide)⟩ (colOf (y 1))) (Fin.forall_fin_two.mpr ⟨?_, ?_⟩) (0 : Fin 2) ?_).trans ?_
    · show (y 0).val = 16 * ((y 0).val / 16) + (y 0).val % 16
      omega
    · show (y 1).val = k0_off1 (grid0.coords t) 1 + (y 1).val % 512
      have : (y 1).val / 512 = t.val := congrArg Fin.val hp
      rw [hc]; omega
    · intro j hj
      have hj' : j.val ≠ (y 0).val / 16 := fun h => hj (Fin.ext h)
      show (y 0).val < 16 * j.val ∨ 16 * j.val + 16 ≤ (y 0).val
      omega
    · show _ = gPt _ _ _ _ _ _ _ _
      rw [hp]

end Stores

end Cert.KernelIdeal.Gen

end
-- ==== Proof.KData.lean ====
/- The pipeline of the kernel: the tables grow in the projection phase, and each convolution point writes its block of the
   result from the whole tables. The launch, the frame, and what the result array holds. -/
module

public import proofs.«01_k».proof.Proof.KTables
public import Idealize.ShloMosaic.Lib.Claim
public import Idealize.ShloMosaic.Lib.Pipeline.ValueKit.Tiles
public import Idealize.ShloMosaic.Lib.ValueIdx
public import Idealize.ShloMosaic.Lib.ValueIdxCoords
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer's contents, read at one place of a rectangle. -/
theorem readAt_at {S : Shape} {e : EltTy} (arg : Memref sig .tc .vmem S e) (h : arg.IsWhole) (off size : Fin S.rank → ℕ)
    (inb : ∀ a, off a + size a ≤ S.size a) (X : Vec F S e) (x : (Rect.unit off size inb).shape.Idx) (y : S.Idx)
    (hy : ∀ a, (y a).val = off a + (x a).val) :
    View.readAt (Elt F) arg.view (Rect.unit off size inb).toLoadRect (h.unread X) x = X y := by
  rw [View.readAt_eq_ld, h.read_unread]
  exact View.ld_unit_apply_of X off size inb x y hy

/-- Column `n` of a table, counted round. -/
def colAt (n : ℕ) : Fin 8192 := ⟨n % 8192, Nat.mod_lt _ (by decide)⟩

theorem colAt_val {n : ℕ} (h : n < 8192) : (colAt n).val = n := Nat.mod_eq_of_lt h

/-- Row `h` of the offsets, at the block's positions. -/
def cRow (i : grid0.Coords) (C : Vec F S16x8192 .i32) (h : Fin 16) : Vec F S1x128 .i32 := fun x => C (ix2 h (colAt (m0 i + (x 1).val)))
/-- Row `16 j + h` of the weights, at the block's positions. -/
def gRow (i : grid0.Coords) (G : Vec F S272x8192 .bf16) (h : Fin 16) (j : Fin 17) : Vec F S1x128 .bf16 := fun x =>
  G (ix2 ⟨16 * j.val + h.val, by omega⟩ (colAt (m0 i + (x 1).val)))
/-- The rows of head `h` of the values, at a piece's positions. -/
def vBlk (i : grid0.Coords) (V : Vec F S1024x8192 .bf16) (h : Fin 16) (r : Fin 3) : Vec F S64x128 .bf16 := fun x =>
  V (ix2 ⟨64 * h.val + (x 0).val, by have := idx2_lt0 x; omega⟩ (colAt (p0 i r + (x 1).val)))

/-- Head `h` of the block that point `i` computes, from the three tables. -/
def headT (i : grid0.Coords) (V : Vec F S1024x8192 .bf16) (G : Vec F S272x8192 .bf16) (C : Vec F S16x8192 .i32) (h : Fin 16) : FVec F S64x128 .bf16 :=
  headOf (baseOf (F := F) i (cRow i C h))
    (fun j => if hj : j < 17 then gRow i G h ⟨j, hj⟩ else broadcast S1x128 (Scalar.ofBits .bf16 0x0000#16)) (vBlk i V h)

/-- The block of hidden values from the three tables. -/
def hiddenT (i : grid0.Coords) (V : Vec F S1024x8192 .bf16) (G : Vec F S272x8192 .bf16) (C : Vec F S16x8192 .i32) : FVec F S1024x128 .bf16 :=
  concatenate S1024x128 0 (List.ofFn fun h : Fin 16 => (⟨S64x128, headT i V G C h⟩ : (s : Shape) × (s.Idx → F .bf16)))
    concatenates_S64x128_S64x128_S64x128_S64x128_S64x128_S64x128_S64x128_S64x128_S64x128_S64x128_S64x128_S64x128_S64x128_S64x128_S64x128_S64x128_S1024x128_d0

theorem headAt_eq (i : grid0.Coords) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc1 : cond0_1 i) (xs0 : Vec F S1024x8192 .bf16) (xs1 : Vec F S272x8192 .bf16) (xs2 : Vec F S16x8192 .i32) (h : Fin 16) :
    headAt i arg11 harg11 arg12 harg12 arg13 harg13 hc1 xs0 xs1 xs2 h = headT i xs0 xs1 xs2 h := by
  have hm := m0_le i hc1
  have hp := p0_le i hc1
  unfold headAt headT
  congr 1
  · congr 1
    funext x
    have hx := idx2_lt1 x
    have hx0 := idx2_lt0 x
    exact readAt_at arg13 harg13 _ _ _ xs2 x _ (Fin.forall_fin_two.mpr
      ⟨by show h.val = h.val + (x 0).val; omega, colAt_val (by omega)⟩)
  · funext j
    by_cases hj : j < 17
    · rw [dif_pos hj, dif_pos hj]
      funext x
      have hx := idx2_lt1 x
      have hx0 := idx2_lt0 x
      exact readAt_at arg12 harg12 _ _ _ xs1 x _ (Fin.forall_fin_two.mpr
        ⟨by show 16 * j + h.val = 16 * j + h.val + (x 0).val; omega, colAt_val (by omega)⟩)
    · rw [dif_neg hj, dif_neg hj]
  · funext r x
    have hx := idx2_lt1 x
    have hr := hp r
    exact readAt_at arg11 harg11 _ _ _ xs0 x _ (Fin.forall_fin_two.mpr ⟨rfl, colAt_val (by omega)⟩)

theorem hiddenAt_eq (i : grid0.Coords) (arg11 : Memref sig .tc .vmem S1024x8192 .bf16) (harg11 : arg11.IsWhole) (arg12 : Memref sig .tc .vmem S272x8192 .bf16) (harg12 : arg12.IsWhole) (arg13 : Memref sig .tc .vmem S16x8192 .i32) (harg13 : arg13.IsWhole) (hc1 : cond0_1 i) (xs0 : Vec F S1024x8192 .bf16) (xs1 : Vec F S272x8192 .bf16) (xs2 : Vec F S16x8192 .i32) :
    hiddenAt i arg11 harg11 arg12 harg12 arg13 harg13 hc1 xs0 xs1 xs2 = hiddenT i xs0 xs1 xs2 := by
  unfold hiddenAt hiddenT
  exact congrArg (fun g : Fin 16 → FVec F S64x128 .bf16 =>
    concatenate S1024x128 0 (List.ofFn fun h : Fin 16 => (⟨S64x128, g h⟩ : (s : Shape) × (s.Idx → F .bf16))) concatenates_S64x128_S64x128_S64x128_S64x128_S64x128_S64x128_S64x128_S64x128_S64x128_S64x128_S64x128_S64x128_S64x128_S64x128_S64x128_S64x128_S1024x128_d0)
    (funext fun h => headAt_eq i arg11 harg11 arg12 harg12 arg13 harg13 hc1 xs0 xs1 xs2 h)

/-- The block of the result that a convolution point writes. -/
def outT (c : Dev nD) (t : Fin cfg0.N) : Vec F S128x1024 .f32 :=
  k0_pay4 (hiddenT (grid0.coords t) (VT m c) (GT m c) (CT m c)) (iblk m c 8 t)

/-- The invariant before point `n`: each scratch buffer agrees with its table on the columns filled so far. -/
def Inv (c : Dev nD) (n : ℕ) : sProp 𝕄 :=
  iprop(((∃ d, ⌜AgreeTo n d (VT m c)⌝ ∗ owns (c : Thread nD τ) scM0_0 fullShare d) ∗ (∃ d, ⌜AgreeTo n d (GT m c)⌝ ∗ owns (c : Thread nD τ) scM0_1 fullShare d)
    ∗ (∃ d, ⌜AgreeTo n d (CT m c)⌝ ∗ owns (c : Thread nD τ) scM0_2 fullShare d)) ∗ (∃ r, prngReg c r))

/-- The proof data of the pipeline on core `c`: the inputs' buffers hold their blocks, the output's the block `outT`, the
    invariant is `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outT m c t
  Φ t := Inv m c t.val
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outT m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The output's window is idle in the projection phase, and nothing of it is written back there. -/
theorem idle0_9 : ∀ t : Fin cfg0.N, t.val < 16 → cfg0.idle 9 (grid0.coords t) = true ∧ (cfg0.win 9).flush t = false :=
  (by decide +kernel : ∀ t : Fin grid0.N, t.val < 16 → cfg0.idle 9 (grid0.coords t) = true ∧ (cfg0.win 9).flush t = false)
/-- In the convolution phase it is not idle. -/
theorem live0_9 : ∀ t : Fin cfg0.N, 16 ≤ t.val → cfg0.idle 9 (grid0.coords t) = false :=
  (by decide +kernel : ∀ t : Fin grid0.N, 16 ≤ t.val → cfg0.idle 9 (grid0.coords t) = false)

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input's buffer is left at its block. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 2400000 in
/-- The body at any point: in the projection phase the tables grow by one point's columns, in the convolution phase the
    output's buffer gets its block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [leaves_live m c t 0 rfl, leaves_live m c t 1 rfl, leaves_live m c t 2 rfl, leaves_live m c t 3 rfl, leaves_live m c t 4 rfl,
    leaves_live m c t 5 rfl, leaves_live m c t 6 rfl, leaves_live m c t 7 rfl, leaves_live m c t 8 rfl,
    after0_0, after0_1, after0_2, after0_3, after0_4, after0_5, after0_6, after0_7, after0_8]
  rw [show (dats m 0 c).Φ t.succ = Inv m c (t.val + 1) from rfl, show (dats m 0 c).Φ t.castSucc = Inv m c t.val from rfl,
    show (dats m 0 c).owesAt () t.succ = (dats m 0 c).owesAt () t.castSucc from rfl]
  unfold Inv
  have hN : t.val < 80 := lt_of_lt_of_eq t.isLt (show cfg0.N = 80 from N_0)
  by_cases h0 : t.val < 16
  · have h1 : ¬16 ≤ t.val := by omega
    have hi := idle0_9 t h0
    rw [(dats m 0 c).leavesExact_idle 9 t hi.1 hi.2]
    iintro ⟨⟨⟨⟨%e0, %a0, HS0⟩, ⟨%e1, %a1, HS1⟩, ⟨%e2, %a2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) ((dats m 0 c).before 9 t d9) e0 e1 e2).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]
        · iexists _; isplitr; swap; · iexact HS0
          ipureintro; exact agree_v m c t _ _ _ _ _ _ _ _ _ _ _ _ _ _ _ _ _ _ _ _ _ _ _ _ _ _ _ _ _ _ _ _ a0
        isplitl [HS1]
        · iexists _; isplitr; swap; · iexact HS1
          ipureintro; exact agree_g m c t _ _ _ _ _ _ _ _ _ _ _ _ _ _ _ _ _ _ _ _ _ _ _ _ _ _ _ _ _ _ _ _ a1
        iexists _; isplitr; swap; · iexact HS2
        ipureintro; exact agree_c m c t _ _ _ _ _ _ _ _ _ _ _ _ _ _ _ _ _ _ _ _ _ _ _ _ _ _ _ _ _ _ _ _ a2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · have h1 : 16 ≤ t.val := by omega
    rw [leaves_live m c t 9 (live0_9 t h1), after0_9]
    iintro ⟨⟨⟨⟨%e0, %a0, HS0⟩, ⟨%e1, %a1, HS1⟩, ⟨%e2, %a2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    obtain rfl := agree_full h1 a0
    obtain rfl := agree_full h1 a1
    obtain rfl := agree_full h1 a2
    iapply ((kernelRun0_B c (grid0.coords t) _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((dats m 0 c).before 9 t d9) (VT m c) (GT m c) (CT m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    rw [outB_eq, hiddenAt_eq]
    isplitl [HS0 HS1 HS2 Hg]
    · isplitl [HS0 HS1 HS2]
      · isplitl [HS0]
        · iexists _; isplitr; swap; · iexact HS0
          ipureintro; exact agree_of_full _ _
        isplitl [HS1]
        · iexists _; isplitr; swap; · iexact HS1
          ipureintro; exact agree_of_full _ _
        iexists _; isplitr; swap; · iexact HS2
        ipureintro; exact agree_of_full _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem inv_in (c : Dev nD) : (Pipeline.ΦA spec0 c : sProp 𝕄) ⊢ Inv m c 0 := by
  rw [PhiA0_eq]; unfold Inv
  iintro ⟨⟨⟨%e0, HS0⟩, ⟨%e1, HS1⟩, ⟨%e2, HS2⟩⟩, Hg⟩
  isplitl [HS0 HS1 HS2]
  · isplitl [HS0]
    · iexists e0; isplitr; swap; · iexact HS0
      ipureintro; exact agree_zero _ _
    isplitl [HS1]
    · iexists e1; isplitr; swap; · iexact HS1
      ipureintro; exact agree_zero _ _
    iexists e2; isplitr; swap; · iexact HS2
    ipureintro; exact agree_zero _ _
  iexact Hg

theorem inv_out (c : Dev nD) (n : ℕ) : Inv m c n ⊢ (Pipeline.ΦA spec0 c : sProp 𝕄) := by
  rw [PhiA0_eq]; unfold Inv
  iintro ⟨⟨⟨%e0, %a0, HS0⟩, ⟨%e1, %a1, HS1⟩, ⟨%e2, %a2, HS2⟩⟩, Hg⟩
  isplitl [HS0 HS1 HS2]
  · isplitl [HS0]
    · iexists e0; iexact HS0
    isplitl [HS1]
    · iexists e1; iexact HS1
    iexists e2; iexact HS2
  iexact Hg

set_option backward.isDefEq.respectTransparency.types false in
set_option maxHeartbeats 800000 in
/-- The launch: the arrays end at what the proof data say, and every semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_in m c) (hout := fun c => inv_out m c _)

/-- The kernel leaves its arguments and every semaphore counter as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.Frames.lean ====
/- The frame of the kernel as printed: its program and its ideal program have the same text, so the frame proved for the
   ideal program at any floats is the kernel's at the machine's. -/
module

public import proofs.«01_k».proof.Defs
public import proofs.«01_k».proof.Proof.KData
public import proofs.«01_k».proof.Proof.Gen.Kernel
public import proofs.«01_k».proof.Proof.Gen.ReferenceIdeal.Run
public import Idealize.ShloMosaic.Adequacy
public import Idealize.ShloMosaic.Init

@[expose] public section

set_option maxRecDepth 65536

noncomputable section

namespace Cert.Proof

open Idealize.ShloMosaic Idealize.SL.Sem

attribute [local instance] Cert.Kernel.Gen.facts Cert.KernelIdeal.Gen.facts

variable {F : FTy → Type} [FloatOps F]

/-- The two programs' bodies agree, label by label. -/
theorem bodies_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Λ := Cert.Kernel.Λ₀) (Val := Elt F))
    (funext fun l => funext fun a => ?_)
  match l, a with
  | 0, (t, s) => rfl
  | ⟨_ + 1, h⟩, _ => exact absurd h (Nat.not_lt.2 (Nat.le_add_left _ _))

/-- So do their tables of bodies, with the pipelines'. -/
theorem tables_eq : Cert.Kernel.defs (F := F) = Cert.KernelIdeal.defs (F := F) := by
  unfold Cert.Kernel.defs
  rw [bodies_eq]
  rfl

/-- The kernel's frame. -/
theorem frame_kernel : Cert.quiescent_Kernel := fun m ρ _ => by
  rw [tables_eq]
  exact Cert.KernelIdeal.Gen.frame (F := Bits) m ρ

/-- The ideal program's frame. -/
theorem frame_kernelIdeal : Cert.quiescent_KernelIdeal := fun m ρ _ => Cert.KernelIdeal.Gen.frame m ρ

/-- The reference's frame: its arguments end as they were, and it has no semaphore. -/
theorem frame_referenceIdeal [h : Cert.ReferenceIdeal.Facts] : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

end Cert.Proof

end
-- ==== Proof.KBlk.lean ====
/- The blocks that the kernel's points read, as elements of the arguments. -/
module

public import proofs.«01_k».proof.Proof.KData
public import Idealize.ShloMosaic.Lib.StableHlo.ReadAt
public import Idealize.ShloMosaic.Lib.Pipeline.ValueKit
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem idx0_0 : ∀ t : Fin cfg0.N, win0_0.index t = ![min t.val 15, 0] :=
  (by decide +kernel : ∀ t : Fin grid0.N, win0_0.index t = ![min t.val 15, 0])
theorem idx0_1 : ∀ t : Fin cfg0.N, win0_1.index t = ![0, 0] :=
  (by decide +kernel : ∀ t : Fin grid0.N, win0_1.index t = ![0, 0])
theorem idx0_2 : ∀ t : Fin cfg0.N, win0_2.index t = ![0, 0] :=
  (by decide +kernel : ∀ t : Fin grid0.N, win0_2.index t = ![0, 0])
theorem idx0_3 : ∀ t : Fin cfg0.N, win0_3.index t = ![0, 0] :=
  (by decide +kernel : ∀ t : Fin grid0.N, win0_3.index t = ![0, 0])
theorem idx0_4 : ∀ t : Fin cfg0.N, win0_4.index t = ![0, 0] :=
  (by decide +kernel : ∀ t : Fin grid0.N, win0_4.index t = ![0, 0])
theorem idx0_5 : ∀ t : Fin cfg0.N, win0_5.index t = ![0, 0] :=
  (by decide +kernel : ∀ t : Fin grid0.N, win0_5.index t = ![0, 0])
theorem idx0_6 : ∀ t : Fin cfg0.N, win0_6.index t = ![0, 0] :=
  (by decide +kernel : ∀ t : Fin grid0.N, win0_6.index t = ![0, 0])
theorem idx0_7 : ∀ t : Fin cfg0.N, win0_7.index t = ![0, 0] :=
  (by decide +kernel : ∀ t : Fin grid0.N, win0_7.index t = ![0, 0])
theorem idx0_8 : ∀ t : Fin cfg0.N, win0_8.index t = ![0, 0] :=
  (by decide +kernel : ∀ t : Fin grid0.N, win0_8.index t = ![0, 0])

theorem v13_at (n : Fin 8192) (k : Fin 1024) : V m c main_v13 (ix2 (n0 := 8192) (n1 := 1024) n k) = m ((c : Thread nD τ).loc main_arg0)
      (ix3 (n0 := 2) (n1 := 4096) (n2 := 1024) ⟨n.val / 4096, by omega⟩ ⟨n.val % 4096, by omega⟩ k) := by
  unfold V V0
  after_reads_at

theorem v18_at (r k : Fin 1024) : V m c main_v18 (ix2 (n0 := 1024) (n1 := 1024) r k) = m ((c : Thread nD τ).loc main_arg12) (ix2 (n0 := 1024) (n1 := 1024) r k) := by
  unfold V V0
  after_reads_at
theorem v12_at (r k : Fin 1024) : V m c main_v12 (ix2 (n0 := 1024) (n1 := 1024) r k) = m ((c : Thread nD τ).loc main_arg10) (ix2 (n0 := 1024) (n1 := 1024) r k) := by
  unfold V V0
  after_reads_at
theorem v14_at (r : Fin 1024) : V m c main_v14 (ix2 (n0 := 1024) (n1 := 1) r 0) = m ((c : Thread nD τ).loc main_arg11) (ix1 (n0 := 1024) r) := by
  unfold V V0
  after_reads_at
theorem v15_at (r : Fin 16) : V m c main_v15 (ix2 (n0 := 16) (n1 := 1) r 0) = m ((c : Thread nD τ).loc main_arg3) (ix1 (n0 := 16) r) := by
  unfold V V0
  after_reads_at
theorem v16_at (r : Fin 16) : V m c main_v16 (ix2 (n0 := 16) (n1 := 1) r 0) = m ((c : Thread nD τ).loc main_arg6) (ix1 (n0 := 16) r) := by
  unfold V V0
  after_reads_at
theorem v17_at (r : Fin 256) : V m c main_v17 (ix2 (n0 := 256) (n1 := 1) r 0) = m ((c : Thread nD τ).loc main_arg9) (ix1 (n0 := 256) ⟨16 * (r.val % 16) + r.val / 16, by omega⟩) := by
  unfold V V0
  after_reads_at
  exact congrArg _ (congrArg ix1 (Fin.ext (by show r.val % 16 * 16 + r.val / 16 = 16 * (r.val % 16) + r.val / 16; omega)))
theorem v9_at_0 (r : Fin 16) (k : Fin 1024) : V m c main_v9 (ix2 (n0 := 288) (n1 := 1024) ⟨r.val, by omega⟩ k) = m ((c : Thread nD τ).loc main_arg1) (ix2 (n0 := 16) (n1 := 1024) r k) := by
  unfold V V0
  after_reads_at
theorem v9_at_1 (r : Fin 16) (k : Fin 1024) : V m c main_v9 (ix2 (n0 := 288) (n1 := 1024) ⟨16 + r.val, by omega⟩ k) = m ((c : Thread nD τ).loc main_arg4) (ix2 (n0 := 16) (n1 := 1024) r k) := by
  unfold V V0
  after_reads_at
theorem v9_at_2 (r : Fin 256) (k : Fin 1024) : V m c main_v9 (ix2 (n0 := 288) (n1 := 1024) ⟨32 + r.val, by omega⟩ k) = m ((c : Thread nD τ).loc main_arg7) (ix2 (n0 := 256) (n1 := 1024) ⟨16 * (r.val % 16) + r.val / 16, by omega⟩ k) := by
  unfold V V0
  after_reads_at
  rw [dif_neg (by omega), dif_neg (by omega)]
  after_reads_at
  exact congrArg _ (congrArg (fun a => ix2 a k) (Fin.ext (by show (32 + r.val - 16 - 16) % 16 * 16 + (32 + r.val - 16 - 16) / 16 = 16 * (r.val % 16) + r.val / 16; omega)))
theorem v11_at_0 (r : Fin 16) : V m c main_v11 (ix2 (n0 := 288) (n1 := 1) ⟨r.val, by omega⟩ 0) = m ((c : Thread nD τ).loc main_arg2) (ix1 (n0 := 16) r) := by
  unfold V V0
  after_reads_at
  after_reads_at
theorem v11_at_1 (r : Fin 16) : V m c main_v11 (ix2 (n0 := 288) (n1 := 1) ⟨16 + r.val, by omega⟩ 0) = m ((c : Thread nD τ).loc main_arg5) (ix1 (n0 := 16) r) := by
  unfold V V0
  after_reads_at
  after_reads_at
theorem v11_at_2 (r : Fin 256) : V m c main_v11 (ix2 (n0 := 288) (n1 := 1) ⟨32 + r.val, by omega⟩ 0) = m ((c : Thread nD τ).loc main_arg8) (ix1 (n0 := 256) ⟨16 * (r.val % 16) + r.val / 16, by omega⟩) := by
  unfold V V0
  after_reads_at
  rw [dif_neg (by omega), dif_neg (by omega)]
  after_reads_at
  exact congrArg _ (congrArg ix1 (Fin.ext (by show (32 + r.val - 16 - 16) % 16 * 16 + (32 + r.val - 16 - 16) / 16 = 16 * (r.val % 16) + r.val / 16; omega)))

theorem x_at (t : Fin cfg0.N) (ht : t.val < 16) (r : Fin 512) (k : Fin 1024) :
    iblk m c 0 t (ix2 r k) = V m c main_v13 (ix2 (n0 := 8192) (n1 := 1024) ⟨512 * t.val + r.val, by omega⟩ k) := by
  blk_ext [iblk, idx0_0 t]
theorem w_at (t : Fin cfg0.N) (r : Fin 288) (k : Fin 1024) : iblk m c 1 t (ix2 r k) = V m c main_v9 (ix2 (n0 := 288) (n1 := 1024) r k) := by
  blk_ext [iblk, idx0_1 t]
theorem vw_at (t : Fin cfg0.N) (r : Fin 1024) (k : Fin 1024) : iblk m c 2 t (ix2 r k) = V m c main_v12 (ix2 (n0 := 1024) (n1 := 1024) r k) := by
  blk_ext [iblk, idx0_2 t]
theorem b_at (t : Fin cfg0.N) (r : Fin 288) : iblk m c 3 t (ix2 r 0) = V m c main_v11 (ix2 (n0 := 288) (n1 := 1) r 0) := by
  blk_ext [iblk, idx0_3 t]
theorem vb_at (t : Fin cfg0.N) (r : Fin 1024) : iblk m c 4 t (ix2 r 0) = V m c main_v14 (ix2 (n0 := 1024) (n1 := 1) r 0) := by
  blk_ext [iblk, idx0_4 t]
theorem wg_at (t : Fin cfg0.N) (r : Fin 16) : iblk m c 5 t (ix2 r 0) = V m c main_v15 (ix2 (n0 := 16) (n1 := 1) r 0) := by
  blk_ext [iblk, idx0_5 t]
theorem og_at (t : Fin cfg0.N) (r : Fin 16) : iblk m c 6 t (ix2 r 0) = V m c main_v16 (ix2 (n0 := 16) (n1 := 1) r 0) := by
  blk_ext [iblk, idx0_6 t]
theorem kg_at (t : Fin cfg0.N) (r : Fin 256) : iblk m c 7 t (ix2 r 0) = V m c main_v17 (ix2 (n0 := 256) (n1 := 1) r 0) := by
  blk_ext [iblk, idx0_7 t]
theorem ow_at (t : Fin cfg0.N) (r : Fin 1024) (k : Fin 1024) : iblk m c 8 t (ix2 r k) = V m c main_v18 (ix2 (n0 := 1024) (n1 := 1024) r k) := by
  blk_ext [iblk, idx0_8 t]

end Cert.KernelIdeal.Gen

end
-- ==== Proof.Spec.lean ====
/- The layer as plain mathematics: functions of the arguments over the extended reals. Both programs are read against these. -/
module

public import Idealize.ShloMosaic.PureOps.Ideal
public import Idealize.ShloMosaic.PureOps.Ideal.Laws
public import Idealize.ShloMosaic.Lib.IdealHost
public import Idealize.ShloMosaic.Lib.Pointwise.Index

@[expose] public section

noncomputable section

namespace Cert.Spec

open Idealize.ShloMosaic

/-- The arguments, by coordinates: `X n` is row `n` of the 8192 positions. -/
structure Args where
  X : Fin 8192 → Fin 1024 → EReal
  Ww : Fin 16 → Fin 1024 → EReal
  bw : Fin 16 → EReal
  gw : Fin 16 → EReal
  Wo : Fin 16 → Fin 1024 → EReal
  bo : Fin 16 → EReal
  go : Fin 16 → EReal
  Wk : Fin 256 → Fin 1024 → EReal
  bk : Fin 256 → EReal
  gk : Fin 256 → EReal
  Wv : Fin 1024 → Fin 1024 → EReal
  bv : Fin 1024 → EReal
  Wout : Fin 1024 → Fin 1024 → EReal

/-- A float's value from its bits. -/
abbrev bits (b : BitVec 32) : EReal := Ideal.ofBits .f32 b

/-- Row `r` of a linear layer. -/
def lin {R : ℕ} (W : Fin R → Fin 1024 → EReal) (b : Fin R → EReal) (x : Fin 1024 → EReal) (r : Fin R) : EReal :=
  (∑ c, x c * W r c) + b r

/-- The root of the mean of the squares, plus a small constant; `N` is the number of entries. -/
def scale {R : ℕ} (N : EReal) (y : Fin R → EReal) : EReal :=
  Ideal.sqrt (Ideal.div (∑ r, y r * y r) N) + bits 0x358637BD#32

/-- Root-mean-square normalization. -/
def normed {R : ℕ} (N : EReal) (y g : Fin R → EReal) (r : Fin R) : EReal := Ideal.div (y r) (scale N y) * g r

variable (A : Args)

/-- Half the width of the window, between 2 and 8. -/
def half (n : Fin 8192) (h : Fin 16) : EReal :=
  Ideal.div (bits 0x40800000#32 + Ideal.logistic (normed (bits 0x41800000#32) (lin A.Ww A.bw (A.X n)) A.gw h) * bits 0x41400000#32) (bits 0x40000000#32)

/-- The offset of the window's centre, between -64 and 64. -/
def off (n : Fin 8192) (h : Fin 16) : EReal :=
  Ideal.tanh (normed (bits 0x41800000#32) (lin A.Wo A.bo (A.X n)) A.go h) * bits 0x42800000#32

/-- The offset's whole part. -/
def offZ (n : Fin 8192) (h : Fin 16) : ℤ := ⌊(off A n h).toReal⌋

/-- The offset's fractional part. -/
def frac (n : Fin 8192) (h : Fin 16) : EReal := off A n h - Ideal.liftRound Int.floor (off A n h)

/-- The normalized logit of tap `k` of head `h`. -/
def kn (n : Fin 8192) (h k : Fin 16) : EReal :=
  normed (bits 0x43800000#32) (lin A.Wk A.bk (A.X n)) A.gk ⟨16 * h.val + k.val, by omega⟩

/-- The distance of tap `k` from the middle tap. -/
def relA (k : Fin 16) : EReal := ((|(k.val : ℝ) - 8| : ℝ) : EReal)

/-- The weight of tap `k` of head `h`: its kernel value under the window. -/
def wgt (n : Fin 8192) (h k : Fin 16) : EReal :=
  kn A n h k * Ideal.logistic (kn A n h k) * Ideal.logistic (half A n h - relA k)

/-- The value at position `n`. -/
def val (n : Fin 8192) (q : Fin 1024) : EReal := lin A.Wv A.bv (A.X n) q

/-- The value at position `p` of batch `b`, zero outside the sequence. -/
def tv (b : Fin 2) (q : Fin 1024) (p : ℤ) : EReal :=
  if h : 0 ≤ p ∧ p < 4096 then val A ⟨4096 * b.val + p.toNat, by omega⟩ q else 0

/-- Batch, position in the batch, and head. -/
def bat (n : Fin 8192) : Fin 2 := ⟨n.val / 4096, by omega⟩
def pos (n : Fin 8192) : ℕ := n.val % 4096
def hd (q : Fin 1024) : Fin 16 := ⟨q.val / 64, by omega⟩

/-- The first tap's source position. -/
def src (n : Fin 8192) (h : Fin 16) : ℤ := (pos n : ℤ) - 8 + offZ A n h

/-- The adaptive convolution: the taps' interpolated values, weighted and summed. -/
def hid (n : Fin 8192) (q : Fin 1024) : EReal :=
  ∑ k : Fin 16, (tv A (bat n) q (src A n (hd q) + k.val) * (1 - frac A n (hd q))
    + tv A (bat n) q (src A n (hd q) + k.val + 1) * frac A n (hd q)) * wgt A n (hd q) k

/-- The output layer. -/
def o (n : Fin 8192) (q : Fin 1024) : EReal := ∑ c, hid A n c * A.Wout q c

/-- The result. -/
def out (n : Fin 8192) (q : Fin 1024) : EReal := o A n q * Ideal.logistic (o A n q)

/-- The arguments by coordinates, from the arrays. -/
def argsOf (x0 : (⟨3, ![2, 4096, 1024]⟩ : Shape).Idx → EReal) (x1 : (⟨2, ![16, 1024]⟩ : Shape).Idx → EReal)
    (x2 x3 : (⟨1, ![16]⟩ : Shape).Idx → EReal) (x4 : (⟨2, ![16, 1024]⟩ : Shape).Idx → EReal)
    (x5 x6 : (⟨1, ![16]⟩ : Shape).Idx → EReal) (x7 : (⟨2, ![256, 1024]⟩ : Shape).Idx → EReal)
    (x8 x9 : (⟨1, ![256]⟩ : Shape).Idx → EReal) (x10 : (⟨2, ![1024, 1024]⟩ : Shape).Idx → EReal)
    (x11 : (⟨1, ![1024]⟩ : Shape).Idx → EReal) (x12 : (⟨2, ![1024, 1024]⟩ : Shape).Idx → EReal) : Args where
  X n c := x0 (ix3 ⟨n.val / 4096, by omega⟩ ⟨n.val % 4096, by omega⟩ c)
  Ww r c := x1 (ix2 r c)
  bw r := x2 (ix1 r)
  gw r := x3 (ix1 r)
  Wo r c := x4 (ix2 r c)
  bo r := x5 (ix1 r)
  go r := x6 (ix1 r)
  Wk r c := x7 (ix2 r c)
  bk r := x8 (ix1 r)
  gk r := x9 (ix1 r)
  Wv r c := x10 (ix2 r c)
  bv r := x11 (ix1 r)
  Wout r c := x12 (ix2 r c)

end Cert.Spec

end
-- ==== Proof.SpecFacts.lean ====
/- Which of the layer's values are real numbers, and the convolution's two forms: a sum over taps, and a sum over source positions. -/
module

public import proofs.«01_k».proof.Proof.Spec
public import Mathlib.Analysis.Complex.Trigonometric

@[expose] public section

noncomputable section

namespace Cert.Spec

open Idealize.ShloMosaic

/-- An extended real that is a real number. -/
def IsReal (x : EReal) : Prop := ∃ r : ℝ, x = r

theorem IsReal.coe (r : ℝ) : IsReal r := ⟨r, rfl⟩
theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) {f : ι → EReal} (h : ∀ i, IsReal (f i)) : IsReal (∑ i ∈ s, f i) := by
  classical
  induction s using Finset.induction with
  | empty => exact IsReal.zero
  | insert a s ha ih => rw [Finset.sum_insert ha]; exact (h a).add ih
theorem coe_sum {ι : Type} (s : Finset ι) (f : ι → ℝ) : ((∑ i ∈ s, f i : ℝ) : EReal) = ∑ i ∈ s, (f i : EReal) := by
  classical
  induction s using Finset.induction with
  | empty => rfl
  | insert a s ha ih => rw [Finset.sum_insert ha, Finset.sum_insert ha, EReal.coe_add, ih]
theorem isReal_iff {x : EReal} : IsReal x ↔ x ≠ ⊥ ∧ x ≠ ⊤ := by
  constructor
  · rintro ⟨r, rfl⟩; exact ⟨EReal.coe_ne_bot r, EReal.coe_ne_top r⟩
  · rintro ⟨h1, h2⟩; exact ⟨x.toReal, (EReal.coe_toReal h2 h1).symm⟩

theorem IsReal.logistic (x : EReal) : IsReal (Ideal.logistic x) := by
  induction x with
  | bot => rw [Ideal.logistic_bot]; exact IsReal.zero
  | top => rw [Ideal.logistic_top]; exact IsReal.one
  | coe r => rw [Ideal.logistic_coe]; exact ⟨_, rfl⟩

/-- A hyperbolic tangent lies between -1 and 1. -/
theorem tanh_real (x : EReal) : ∃ r : ℝ, Ideal.tanh x = r ∧ -1 ≤ r ∧ r ≤ 1 := by
  induction x with
  | bot => exact ⟨-1, rfl, le_rfl, by norm_num⟩
  | top => exact ⟨1, rfl, by norm_num, le_rfl⟩
  | coe r => exact ⟨Real.tanh r, rfl, (Real.neg_one_lt_tanh r).le, (Real.tanh_lt_one r).le⟩

theorem bits_64 : bits 0x42800000#32 = ((64 : ℝ) : EReal) := by
  unfold bits
  simp [Ideal.ofBits, Ideal.ieee, -EReal.coe_mul]; norm_num
theorem bits_4 : bits 0x40800000#32 = ((4 : ℝ) : EReal) := by
  unfold bits
  simp [Ideal.ofBits, Ideal.ieee, -EReal.coe_mul]; norm_num
theorem bits_12 : bits 0x41400000#32 = ((12 : ℝ) : EReal) := by
  unfold bits
  simp [Ideal.ofBits, Ideal.ieee, -EReal.coe_mul]; norm_num
theorem bits_256 : bits 0x43800000#32 = ((256 : ℝ) : EReal) := by
  unfold bits
  simp [Ideal.ofBits, Ideal.ieee, -EReal.coe_mul]; norm_num
theorem bits_2 : bits 0x40000000#32 = ((2 : ℝ) : EReal) := by
  unfold bits
  simp [Ideal.ofBits, Ideal.ieee, -EReal.coe_mul]; norm_num

/-- The small constant of the normalization is a positive real number. -/
theorem bits_eps : ∃ e : ℝ, bits 0x358637BD#32 = e ∧ 0 < e := by
  refine ⟨8796093 * 2 ^ (-43 : ℤ), ?_, by positivity⟩
  unfold bits
  simp [Ideal.ofBits, Ideal.ieee, -EReal.coe_mul]

variable (A : Args)

/-- The offset is a real number between -64 and 64. -/
theorem off_real (n : Fin 8192) (h : Fin 16) : ∃ r : ℝ, off A n h = r ∧ -64 ≤ r ∧ r ≤ 64 := by
  unfold off
  obtain ⟨r, hr, h1, h2⟩ := tanh_real (normed (bits 0x41800000#32) (lin A.Wo A.bo (A.X n)) A.go h)
  exact ⟨r * 64, by rw [hr, bits_64, EReal.coe_mul], by linarith, by linarith⟩

theorem offZ_bounds (n : Fin 8192) (h : Fin 16) : -64 ≤ offZ A n h ∧ offZ A n h ≤ 64 := by
  obtain ⟨r, hr, h1, h2⟩ := off_real A n h
  unfold offZ
  rw [hr, EReal.toReal_coe]
  refine ⟨Int.le_floor.mpr (by push_cast; exact h1), ?_⟩
  exact_mod_cast (Int.floor_le r).trans h2

theorem off_floor (n : Fin 8192) (h : Fin 16) : Ideal.liftRound Int.floor (off A n h) = ((offZ A n h : ℝ) : EReal) := by
  obtain ⟨r, hr, h1, h2⟩ := off_real A n h
  unfold offZ
  rw [hr, EReal.toReal_coe]
  rfl

theorem frac_real (n : Fin 8192) (h : Fin 16) : IsReal (frac A n h) := by
  obtain ⟨r, hr, -, -⟩ := off_real A n h
  unfold frac
  rw [off_floor, hr]
  exact (IsReal.coe r).sub (IsReal.coe _)

/-- A small whole number, as a 32-bit integer, is itself. -/
theorem fptosi_coe (z : ℤ) (h1 : -10000 ≤ z) (h2 : z ≤ 10000) : Ideal.fptosi 32 (((z : ℝ) : ℝ) : EReal) = BitVec.ofInt 32 z := by
  unfold Ideal.fptosi
  rw [Ideal.toIntClamped_coe]
  congr 1
  rw [Int.floor_intCast, Int.ceil_intCast, ite_self]
  norm_num
  omega

/-- The arguments whose values reach the sums over positions are real numbers. -/
structure Fin' : Prop where
  X : ∀ n c, IsReal (A.X n c)
  Wv : ∀ r c, IsReal (A.Wv r c)
  bv : ∀ r, IsReal (A.bv r)
  gk : ∀ r, IsReal (A.gk r)

variable {A}

theorem val_real (H : Fin' A) (n : Fin 8192) (q : Fin 1024) : IsReal (val A n q) :=
  (IsReal.sum _ fun c => (H.X n c).mul (H.Wv q c)).add (H.bv q)

theorem tv_real (H : Fin' A) (b : Fin 2) (q : Fin 1024) (p : ℤ) : IsReal (tv A b q p) := by
  unfold tv
  split
  · exact val_real H _ q
  · exact IsReal.zero

theorem mul_self_nonneg' (x : EReal) : 0 ≤ x * x := by
  induction x with
  | bot => simp
  | top => simp
  | coe r => rw [← EReal.coe_mul]; exact_mod_cast mul_self_nonneg r

theorem mul_self_top {x : EReal} (h : ¬ IsReal x) : x * x = ⊤ := by
  induction x with
  | bot => simp
  | top => simp
  | coe r => exact absurd ⟨r, rfl⟩ h

/-- The scale of a normalization is a positive real number, or positive infinity. -/
theorem scale_pos {R : ℕ} (y : Fin R → EReal) :
    scale (bits 0x43800000#32) y = ⊤ ∨ ((∀ r, IsReal (y r)) ∧ ∃ s : ℝ, 0 < s ∧ scale (bits 0x43800000#32) y = s) := by
  obtain ⟨e, he, hep⟩ := bits_eps
  unfold scale
  rw [he, bits_256, Ideal.div_coe (by norm_num)]
  by_cases h : ∀ r, IsReal (y r)
  · right
    refine ⟨h, ?_⟩
    choose f hf using h
    have hs : (∑ r, y r * y r) = ((∑ r, f r * f r : ℝ) : EReal) := by
      rw [coe_sum]
      exact Finset.sum_congr rfl fun r _ => by rw [hf r, EReal.coe_mul]
    have h0 : 0 ≤ (∑ r, f r * f r) * (1 / 256) := mul_nonneg (Finset.sum_nonneg fun r _ => mul_self_nonneg _) (by norm_num)
    refine ⟨Real.sqrt ((∑ r, f r * f r) * (1 / 256)) + e, by positivity, ?_⟩
    rw [hs, ← EReal.coe_mul, Ideal.sqrt_coe, if_neg (not_lt.mpr h0), EReal.coe_add]
  · left
    push Not at h
    obtain ⟨r, hr⟩ := h
    have hs : (∑ r, y r * y r) = ⊤ := by
      rw [← top_le_iff, ← mul_self_top hr]
      exact Finset.single_le_sum (f := fun r => y r * y r) (fun r _ => mul_self_nonneg' (y r)) (Finset.mem_univ r)
    rw [hs, EReal.top_mul_of_pos (by exact_mod_cast (by norm_num : (0 : ℝ) < 1 / 256))]
    show (⊤ : EReal) + (e : EReal) = ⊤
    exact EReal.top_add_coe e

theorem normed_real {R : ℕ} (y g : Fin R → EReal) (r : Fin R) (hg : IsReal (g r)) : IsReal (normed (bits 0x43800000#32) y g r) := by
  unfold normed
  refine IsReal.mul ?_ hg
  rcases scale_pos y with h | ⟨hy, s, hs, h⟩
  · rw [h, Ideal.div, if_neg (by simp)]
    rw [EReal.inv_top, mul_zero]
    exact IsReal.zero
  · rw [h, Ideal.div_coe hs.ne']
    exact (hy r).mul (IsReal.coe _)

theorem wgt_real (H : Fin' A) (n : Fin 8192) (h k : Fin 16) : IsReal (wgt A n h k) := by
  have hk : IsReal (kn A n h k) := normed_real _ _ _ (H.gk _)
  exact (hk.mul (IsReal.logistic _)).mul (IsReal.logistic _)

/-- The weight of source position `j`: tap `j` from the left and tap `j - 1` from the right. -/
def gS (A : Args) (n : Fin 8192) (h : Fin 16) (j : Fin 17) : EReal :=
  (if hj : j.val < 16 then wgt A n h ⟨j.val, hj⟩ * (1 - frac A n h) else 0) + (if hj : j.val = 0 then 0 else wgt A n h ⟨j.val - 1, by omega⟩ * frac A n h)

/-- The sum over source positions, over the real numbers, is the sum over taps. -/
theorem sum_taps (v : ℕ → ℝ) (w : Fin 16 → ℝ) (f : ℝ) :
    ∑ j : Fin 17, v j.val * ((if hj : j.val < 16 then w ⟨j.val, hj⟩ * (1 - f) else 0) + (if hj : j.val = 0 then 0 else w ⟨j.val - 1, by omega⟩ * f))
      = ∑ k : Fin 16, (v k.val * (1 - f) + v (k.val + 1) * f) * w k := by
  simp only [mul_add, Finset.sum_add_distrib]
  rw [Fin.sum_univ_castSucc, Fin.sum_univ_succ (n := 16) (f := fun j : Fin 17 => v j.val * (if hj : j.val = 0 then 0 else w ⟨j.val - 1, by omega⟩ * f))]
  simp only [Fin.val_castSucc, Fin.is_lt, dite_true, Fin.val_last, lt_irrefl, dite_false, mul_zero, add_zero, Fin.val_zero, zero_add, Fin.val_succ,
    Nat.add_eq_zero_iff, one_ne_zero, and_false, Nat.add_sub_cancel, Fin.eta]
  rw [← Finset.sum_add_distrib]
  refine Finset.sum_congr rfl fun k _ => ?_
  ring

/-- The convolution as a sum over the seventeen source positions. -/
theorem hid_eq (H : Fin' A) (n : Fin 8192) (q : Fin 1024) :
    ∑ j : Fin 17, tv A (bat n) q (src A n (hd q) + j.val) * gS A n (hd q) j = hid A n q := by
  unfold hid gS
  generalize bat n = b
  generalize hd q = h
  generalize src A n h = p
  obtain ⟨f, hf⟩ := frac_real A n h
  choose v hv using fun k : ℕ => tv_real H b q (p + k)
  choose w hw using wgt_real H n h
  have e := congrArg (fun r : ℝ => (r : EReal)) (sum_taps v w f)
  simp only [coe_sum] at e
  refine Eq.trans ?_ (e.trans ?_)
  · refine Finset.sum_congr rfl fun j _ => ?_
    rw [hv, hf, EReal.coe_mul, EReal.coe_add]
    congr 2
    · split
      · rw [hw, EReal.coe_mul, EReal.coe_sub, EReal.coe_one]
      · rfl
    · split
      · rfl
      · rw [hw, EReal.coe_mul]
  · refine Finset.sum_congr rfl fun k _ => ?_
    have h1 : tv A b q (p + k.val + 1) = v (k.val + 1) := by rw [← hv]; congr 1; push_cast; ring
    rw [hv, h1, hf, hw, EReal.coe_mul, EReal.coe_add, EReal.coe_mul, EReal.coe_mul, EReal.coe_sub, EReal.coe_one]

end Cert.Spec

end
-- ==== Proof.KVal.lean ====
/- The three tables, element by element, as the layer's plain functions of the arguments. -/
module

public import proofs.«01_k».proof.Proof.KBlk
public import proofs.«01_k».proof.Proof.SpecFacts

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.Spec

variable (x : Vec Ideal S512x1024 .f32) (w : Vec Ideal S288x1024 .f32) (b : Vec Ideal S288x1 .f32)

theorem pay6_at (r : Fin 288) (j : Fin 512) : k0_pay6 x w b (ix2 r j) = (∑ k : Fin 1024, w (ix2 r k) * x (ix2 j k)) + b (ix2 r 0) := by
  unfold k0_pay6 k0_pay5
  pointwise

theorem pay7_at (vw : Vec Ideal S1024x1024 .bf16) (vb : Vec Ideal S1024x1 .f32) (r : Fin 1024) (j : Fin 512) :
    k0_pay7 x vw vb (ix2 r j) = (∑ k : Fin 1024, vw (ix2 r k) * x (ix2 j k)) + vb (ix2 r 0) := by
  unfold k0_pay7 k0_pay5
  pointwise

theorem pay8_at (r : Fin 16) (j : Fin 512) : k0_pay8 x w b (ix2 r j) = k0_pay6 x w b (ix2 ⟨16 + r.val, by omega⟩ j) := by
  unfold k0_pay8
  generalize k0_pay6 x w b = y
  pointwise

theorem pay9_at (r : Fin 256) (j : Fin 512) : k0_pay9 x w b (ix2 r j) = k0_pay6 x w b (ix2 ⟨32 + r.val, by omega⟩ j) := by
  unfold k0_pay9
  generalize k0_pay6 x w b = y
  pointwise

theorem pay10_at (r : Fin 16) (j : Fin 512) : k0_pay10 x w b (ix2 r j)
    = Ideal.div (k0_pay6 x w b (ix2 ⟨r.val, by omega⟩ j)) (scale (bits 0x41800000#32) fun r : Fin 16 => k0_pay6 x w b (ix2 ⟨r.val, by omega⟩ j)) := by
  unfold k0_pay10 scale
  generalize k0_pay6 x w b = y
  pointwise

theorem pay11_at (g : Vec Ideal S16x1 .f32) (r : Fin 16) (j : Fin 512) : k0_pay11 g (ix2 r j) = g (ix2 r 0) := by
  unfold k0_pay11
  pointwise

theorem pay12_at (y g : FVec Ideal S16x512 .f32) (r : Fin 16) (j : Fin 512) : k0_pay12 y g (ix2 r j)
    = (bits 0x40800000#32 + Ideal.logistic (y (ix2 r j) * g (ix2 r j)) * bits 0x41400000#32) * bits 0x3F000000#32 := by
  unfold k0_pay12
  pointwise

theorem pay13_at (y : FVec Ideal S16x512 .f32) (g : Vec Ideal S16x1 .f32) (r : Fin 16) (j : Fin 512) : k0_pay13 y g (ix2 r j)
    = Ideal.tanh (normed (bits 0x41800000#32) (fun r : Fin 16 => y (ix2 r j)) (fun r => g (ix2 r 0)) r) * bits 0x42800000#32 := by
  unfold k0_pay13 normed scale
  pointwise

theorem pay14_at (y : FVec Ideal S256x512 .f32) (g : Vec Ideal S256x1 .f32) (r : Fin 256) (j : Fin 512) : k0_pay14 y g (ix2 r j)
    = normed (bits 0x43800000#32) (fun r : Fin 256 => y (ix2 r j)) (fun r => g (ix2 r 0)) r
      * Ideal.logistic (normed (bits 0x43800000#32) (fun r : Fin 256 => y (ix2 r j)) (fun r => g (ix2 r 0)) r) := by
  unfold k0_pay14 normed scale
  pointwise

theorem pay16_at (y : FVec Ideal S16x512 .f32) (g : Vec Ideal S16x1 .f32) (r : Fin 16) (j : Fin 512) : k0_pay16 y g (ix2 r j)
    = k0_pay13 y g (ix2 r j) - Ideal.liftRound Int.floor (k0_pay13 y g (ix2 r j)) := by
  unfold k0_pay16 k0_pay15
  rfl

theorem cPt_at (w3 : Vec Ideal S16x1 .f32) (r : Fin 16) (j : Fin 512) : cPt x w b w3 (ix2 r j)
    = Ideal.fptosi 32 (Ideal.liftRound Int.floor (k0_pay13 (k0_pay8 x w b) w3 (ix2 r j))) := by
  unfold cPt k0_pay18 k0_pay17 k0_pay15
  generalize k0_pay13 (k0_pay8 x w b) w3 = y
  pointwise
  rfl

theorem wmsOf_at (hw : FVec Ideal S16x512 .f32) (kn : FVec Ideal S256x512 .f32) (k : Fin 16) (r : Fin 16) (j : Fin 512) :
    wmsOf hw kn k (ix2 r j) = kn (ix2 ⟨16 * k.val + r.val, by omega⟩ j) * Ideal.logistic (hw (ix2 r j) - bits (relBits k)) := by
  unfold wmsOf
  generalize relBits k = q
  pointwise

theorem gOf_at (fr : FVec Ideal S16x512 .f32) (w : Fin 16 → FVec Ideal S16x512 .f32) (j : Fin 17) (r : Fin 16) (q : Fin 512) :
    gOf fr w j (ix2 r q) = (if h : j.val < 16 then w ⟨j.val, h⟩ (ix2 r q) * (1 - fr (ix2 r q)) else 0)
      + (if h : j.val = 0 then 0 else w ⟨j.val - 1, by omega⟩ (ix2 r q) * fr (ix2 r q)) := by
  unfold gOf k0_pay38
  by_cases h0 : j.val = 0
  · have h1 : j.val < 16 := by omega
    have e : (⟨j.val, h1⟩ : Fin 16) = 0 := Fin.ext h0
    rw [dif_pos h0, dif_pos h1, dif_pos h0, e]
    pointwise
  · by_cases h1 : j.val < 16
    · rw [dif_neg h0, dif_pos h1, dif_pos h1, dif_neg h0]
      pointwise
    · have e : (⟨j.val - 1, by omega⟩ : Fin 16) = 15 := Fin.ext (by show j.val - 1 = 15; omega)
      rw [dif_neg h0, dif_neg h1, dif_neg h1, dif_neg h0, e]
      pointwise

variable (m : (ℓ : Loc nD τ sig) → Buf (Elt Ideal) ℓ) (c : Dev nD)

/-- The arguments by coordinates. -/
def argsK : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11)) (m ((c : Thread nD τ).loc main_arg12))

/-- The row of `x` behind column `n` of the tables. -/
theorem x_col (n : Fin 8192) (k : Fin 1024) : iblk m c 0 (ptOf n) (ix2 (colOf n) k) = (argsK m c).X n k := by
  rw [x_at m c (ptOf n) (by show n.val / 512 < 16; omega) (colOf n) k]
  have e : (⟨512 * (ptOf n).val + (colOf n).val, by show 512 * (n.val / 512) + n.val % 512 < 8192; omega⟩ : Fin 8192) = n :=
    Fin.ext (by show 512 * (n.val / 512) + n.val % 512 = n.val; omega)
  rw [e]
  exact v13_at m c n k

theorem lin_row (n : Fin 8192) (r : Fin 288) {R : ℕ} (W : Fin R → Fin 1024 → EReal) (B : Fin R → EReal) (q : Fin R)
    (hW : ∀ k, V m c main_v9 (ix2 (n0 := 288) (n1 := 1024) r k) = W q k) (hB : V m c main_v11 (ix2 (n0 := 288) (n1 := 1) r 0) = B q) :
    k0_pay6 (iblk m c 0 (ptOf n)) (iblk m c 1 (ptOf n)) (iblk m c 3 (ptOf n)) (ix2 r (colOf n)) = lin W B ((argsK m c).X n) q := by
  rw [pay6_at, b_at, hB]
  unfold lin
  congr 1
  refine Finset.sum_congr rfl fun k _ => ?_
  rw [w_at, hW, x_col, mul_comm]

theorem lin_w (n : Fin 8192) (r : Fin 16) : k0_pay6 (iblk m c 0 (ptOf n)) (iblk m c 1 (ptOf n)) (iblk m c 3 (ptOf n)) (ix2 ⟨r.val, by omega⟩ (colOf n))
    = lin (argsK m c).Ww (argsK m c).bw ((argsK m c).X n) r :=
  lin_row m c n _ _ _ r (fun k => v9_at_0 m c r k) (v11_at_0 m c r)

theorem lin_o (n : Fin 8192) (r : Fin 16) : k0_pay6 (iblk m c 0 (ptOf n)) (iblk m c 1 (ptOf n)) (iblk m c 3 (ptOf n)) (ix2 ⟨16 + r.val, by omega⟩ (colOf n))
    = lin (argsK m c).Wo (argsK m c).bo ((argsK m c).X n) r :=
  lin_row m c n _ _ _ r (fun k => v9_at_1 m c r k) (v11_at_1 m c r)

/-- Row `16 k + h` of the kernel's order is row `16 h + k` of the arguments'. -/
def swap (r : Fin 256) : Fin 256 := ⟨16 * (r.val % 16) + r.val / 16, by omega⟩

theorem lin_k (n : Fin 8192) (r : Fin 256) : k0_pay6 (iblk m c 0 (ptOf n)) (iblk m c 1 (ptOf n)) (iblk m c 3 (ptOf n)) (ix2 ⟨32 + r.val, by omega⟩ (colOf n))
    = lin (argsK m c).Wk (argsK m c).bk ((argsK m c).X n) (swap r) :=
  lin_row m c n _ _ _ (swap r) (fun k => v9_at_2 m c r k) (v11_at_2 m c r)

/-- The swap of the two orders is its own inverse. -/
theorem swap_swap (r : Fin 256) : swap (swap r) = r := Fin.ext (by
  show 16 * ((16 * (r.val % 16) + r.val / 16) % 16) + (16 * (r.val % 16) + r.val / 16) / 16 = r.val
  omega)

theorem scale_swap (N : EReal) (y : Fin 256 → EReal) : scale N (fun r => y (swap r)) = scale N y := by
  unfold scale
  rw [Fintype.sum_equiv (Function.Involutive.toPerm swap swap_swap) (fun r => y (swap r) * y (swap r)) (fun r => y r * y r) (fun r => rfl)]

theorem VT_at (q : Fin 1024) (n : Fin 8192) : VT m c (ValueIdx.ix2 q n) = val (argsK m c) n q := by
  unfold VT
  show k0_pay7 (iblk m c 0 (ptOf n)) (iblk m c 2 (ptOf n)) (iblk m c 4 (ptOf n)) (ValueIdx.ix2 q (colOf n)) = _
  rw [← ix2_eq_valueIdx, pay7_at, vb_at, v14_at]
  unfold val lin
  congr 1
  refine Finset.sum_congr rfl fun k _ => ?_
  rw [vw_at, v12_at, x_col, mul_comm]
  rfl

theorem bits_two : bits 0x40000000#32 = ((2 : ℝ) : EReal) := by
  unfold bits
  simp [Ideal.ofBits, Ideal.ieee, -EReal.coe_mul]; norm_num
theorem bits_half : bits 0x3F000000#32 = ((1 / 2 : ℝ) : EReal) := by
  unfold bits
  simp [Ideal.ofBits, Ideal.ieee, -EReal.coe_mul]; norm_num

theorem half_at (n : Fin 8192) (h : Fin 16) :
    k0_pay12 (k0_pay10 (iblk m c 0 (ptOf n)) (iblk m c 1 (ptOf n)) (iblk m c 3 (ptOf n))) (k0_pay11 (iblk m c 5 (ptOf n))) (ix2 h (colOf n))
      = half (argsK m c) n h := by
  rw [pay12_at, pay11_at, pay10_at, wg_at, v15_at]
  simp only [lin_w]
  unfold half normed
  rw [show bits 0x40000000#32 = ((2 : ℝ) : EReal) from bits_two, show bits 0x3F000000#32 = ((1 / 2 : ℝ) : EReal) from bits_half, Ideal.div_coe two_ne_zero]
  rfl

theorem off_at (n : Fin 8192) (h : Fin 16) :
    k0_pay13 (k0_pay8 (iblk m c 0 (ptOf n)) (iblk m c 1 (ptOf n)) (iblk m c 3 (ptOf n))) (iblk m c 6 (ptOf n)) (ix2 h (colOf n))
      = off (argsK m c) n h := by
  rw [pay13_at]
  have hg : ∀ r, iblk m c 6 (ptOf n) (ix2 r 0) = (argsK m c).go r := fun r => (og_at m c (ptOf n) r).trans (v16_at m c r)
  simp only [pay8_at, lin_o, hg]
  rfl

theorem swap_row (h k : Fin 16) : swap ⟨16 * k.val + h.val, by omega⟩ = ⟨16 * h.val + k.val, by omega⟩ := Fin.ext (by
  show 16 * ((16 * k.val + h.val) % 16) + (16 * k.val + h.val) / 16 = 16 * h.val + k.val
  omega)

theorem kn_at (n : Fin 8192) (h k : Fin 16) :
    k0_pay14 (k0_pay9 (iblk m c 0 (ptOf n)) (iblk m c 1 (ptOf n)) (iblk m c 3 (ptOf n))) (iblk m c 7 (ptOf n)) (ix2 ⟨16 * k.val + h.val, by omega⟩ (colOf n))
      = kn (argsK m c) n h k * Ideal.logistic (kn (argsK m c) n h k) := by
  rw [pay14_at]
  have hg : ∀ r, iblk m c 7 (ptOf n) (ix2 r 0) = (argsK m c).gk (swap r) := fun r => (kg_at m c (ptOf n) r).trans (v17_at m c r)
  simp only [pay9_at, lin_k, hg]
  have e : normed (bits 0x43800000#32) (fun r : Fin 256 => lin (argsK m c).Wk (argsK m c).bk ((argsK m c).X n) (swap r))
      (fun r : Fin 256 => (argsK m c).gk (swap r)) ⟨16 * k.val + h.val, by omega⟩ = kn (argsK m c) n h k := by
    unfold kn normed
    rw [scale_swap]
    dsimp only
    rw [swap_row]
  exact congrArg (fun z => z * Ideal.logistic z) e

theorem CT_at (h : Fin 16) (n : Fin 8192) : CT m c (ValueIdx.ix2 h n) = Ideal.fptosi 32 (Ideal.liftRound Int.floor (off (argsK m c) n h)) := by
  unfold CT
  show cPt (iblk m c 0 (ptOf n)) (iblk m c 1 (ptOf n)) (iblk m c 3 (ptOf n)) (iblk m c 6 (ptOf n)) (ValueIdx.ix2 h (colOf n)) = _
  rw [← ix2_eq_valueIdx, cPt_at, off_at]

theorem relBits_at (k : Fin 16) : bits (relBits k) = relA k := by
  unfold relA bits
  fin_cases k <;> simp [relBits, Ideal.ofBits, Ideal.ieee, -EReal.coe_mul] <;> norm_num

theorem wms_at (n : Fin 8192) (h k : Fin 16) :
    wmsOf (k0_pay12 (k0_pay10 (iblk m c 0 (ptOf n)) (iblk m c 1 (ptOf n)) (iblk m c 3 (ptOf n))) (k0_pay11 (iblk m c 5 (ptOf n))))
      (k0_pay14 (k0_pay9 (iblk m c 0 (ptOf n)) (iblk m c 1 (ptOf n)) (iblk m c 3 (ptOf n))) (iblk m c 7 (ptOf n))) k (ix2 h (colOf n)) = wgt (argsK m c) n h k := by
  rw [wmsOf_at, kn_at, half_at, relBits_at]
  rfl

theorem GT_at (h : Fin 16) (j : Fin 17) (n : Fin 8192) : GT m c (ValueIdx.ix2 ⟨16 * j.val + h.val, by omega⟩ n) = gS (argsK m c) n h j := by
  unfold GT
  have e1 : (⟨(16 * j.val + h.val) / 16, by omega⟩ : Fin 17) = j := Fin.ext (by show (16 * j.val + h.val) / 16 = j.val; omega)
  have e2 : (⟨(16 * j.val + h.val) % 16, by omega⟩ : Fin 16) = h := Fin.ext (by show (16 * j.val + h.val) % 16 = h.val; omega)
  show gOf (k0_pay16 (k0_pay8 (iblk m c 0 (ptOf n)) (iblk m c 1 (ptOf n)) (iblk m c 3 (ptOf n))) (iblk m c 6 (ptOf n))) (wmsOf (k0_pay12 (k0_pay10 (iblk m c 0 (ptOf n)) (iblk m c 1 (ptOf n)) (iblk m c 3 (ptOf n))) (k0_pay11 (iblk m c 5 (ptOf n))))
    (k0_pay14 (k0_pay9 (iblk m c 0 (ptOf n)) (iblk m c 1 (ptOf n)) (iblk m c 3 (ptOf n))) (iblk m c 7 (ptOf n))))
    (⟨(16 * j.val + h.val) / 16, by omega⟩ : Fin 17) (ValueIdx.ix2 (⟨(16 * j.val + h.val) % 16, by omega⟩ : Fin 16) (colOf n)) = _
  rw [e1, e2, ← ix2_eq_valueIdx, gOf_at, pay16_at, off_at]
  simp only [wms_at]
  rfl

end Cert.KernelIdeal.Gen

end
-- ==== Proof.KConv.lean ====
/- The convolution phase's block, element by element: a sum over the seventeen source positions of the values times their
   weights. The three band products pick, for every output position, the source positions inside the window of 384. -/
module

public import proofs.«01_k».proof.Proof.KVal

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.Spec

/-- The batch of the block that point `t` computes. -/
def batOf (t : ℕ) : ℕ := (t - 16) / 32
/-- The first position of the block inside its batch. -/
def locOf (t : ℕ) : ℕ := 128 * ((t - 16) % 32)
/-- The first position of the window of 384 source positions inside the batch. -/
def winOf (t : ℕ) : ℕ := min (locOf t - 128) 3712

theorem m0_eq : ∀ t : Fin cfg0.N, 16 ≤ t.val → m0 (grid0.coords t) = 4096 * batOf t.val + locOf t.val :=
  (by decide +kernel : ∀ t : Fin grid0.N, 16 ≤ t.val → m0 (grid0.coords t) = 4096 * batOf t.val + locOf t.val)
theorem p0_eq : ∀ t : Fin cfg0.N, 16 ≤ t.val → ∀ r : Fin 3, p0 (grid0.coords t) r = 4096 * batOf t.val + winOf t.val + 128 * r.val :=
  (by decide +kernel : ∀ t : Fin grid0.N, 16 ≤ t.val → ∀ r : Fin 3, p0 (grid0.coords t) r = 4096 * batOf t.val + winOf t.val + 128 * r.val)
theorem v50_eq : ∀ t : Fin cfg0.N, 16 ≤ t.val → kernelRun0_B.sl.v50 (grid0.coords t) = BitVec.ofInt 32 ((locOf t.val : ℤ) - winOf t.val - 8) :=
  (by decide +kernel : ∀ t : Fin grid0.N, 16 ≤ t.val → kernelRun0_B.sl.v50 (grid0.coords t) = BitVec.ofInt 32 ((locOf t.val : ℤ) - winOf t.val - 8))

/-- A number times the band matrix: one term for every select. -/
theorem mul_band (V : EReal) (d : IVec S128x128 16) (g : ℕ → Vec Ideal S1x128 .bf16) (p u : Fin 128) (n : ℕ) (hn : n ≤ 17) :
    V * bandTo (F := Ideal) d g n (ix2 p u) = ∑ j ∈ Finset.range n, if d (ix2 p u) = BitVec.ofNat 16 j then V * g j (ix2 0 u) else 0 := by
  induction n with
  | zero =>
    have : bandTo (F := Ideal) d g 0 (ix2 p u) = 0 := by
      unfold bandTo
      pointwise
    rw [this, mul_zero]
    rfl
  | succ n ih =>
    have ih := ih (by omega)
    have hs : bandTo (F := Ideal) d g (n + 1) (ix2 p u) = if d (ix2 p u) = BitVec.ofNat 16 n then g n (ix2 0 u) else bandTo (F := Ideal) d g n (ix2 p u) := by
      rw [bandTo]
      generalize bandTo (F := Ideal) d g n = B
      generalize g n = G
      pointwise
      by_cases h : d (ix2 p u) = BitVec.ofNat 16 n
      · simp [Scalar.select, IntOp.cmpi, h]
      · have h' : (d (ix2 p u) == BitVec.ofNat 16 n) = false := beq_eq_false_iff_ne.mpr h
        simp [Scalar.select, IntOp.cmpi, h, h']
    rw [hs, Finset.sum_range_succ]
    by_cases h : d (ix2 p u) = BitVec.ofNat 16 n
    · rw [if_pos h, if_pos h, Finset.sum_eq_zero, zero_add]
      intro j hj
      have hj := Finset.mem_range.mp hj
      rw [if_neg]
      rw [h]
      intro e
      have := congrArg BitVec.toNat e
      simp only [BitVec.toNat_ofNat] at this
      omega
    · rw [if_neg h, if_neg h, ih, add_zero]

/-- Of the sum over the window's positions, the one that is `e`. -/
theorem pick (f : ℕ → EReal) (e : ℤ) :
    (∑ r : Fin 3, ∑ p : Fin 128, if ((128 * r.val + p.val : ℕ) : ℤ) = e then f (128 * r.val + p.val) else 0) = if 0 ≤ e ∧ e < 384 then f e.toNat else 0 := by
  by_cases h : 0 ≤ e ∧ e < 384
  · rw [if_pos h]
    obtain ⟨E, rfl⟩ := Int.eq_ofNat_of_zero_le h.1
    have hE : E < 384 := by omega
    rw [Finset.sum_eq_single (⟨E / 128, by omega⟩ : Fin 3), Finset.sum_eq_single (⟨E % 128, by omega⟩ : Fin 128)]
    · have h1 : 128 * (E / 128) + E % 128 = E := by omega
      show (if ((128 * (E / 128) + E % 128 : ℕ) : ℤ) = E then f (128 * (E / 128) + E % 128) else 0) = f E
      rw [h1, if_pos rfl]
    · intro b _ hb
      refine if_neg fun h' => hb (Fin.ext ?_)
      have h' : 128 * (E / 128) + b.val = E := by exact_mod_cast h'
      show b.val = E % 128
      omega
    · intro hb; exact absurd (Finset.mem_univ _) hb
    · intro b _ hb
      refine Finset.sum_eq_zero fun p _ => if_neg fun h' => hb (Fin.ext ?_)
      have h' : 128 * b.val + p.val = E := by exact_mod_cast h'
      show b.val = E / 128
      omega
    · intro hb; exact absurd (Finset.mem_univ _) hb
  · rw [if_neg h]
    refine Finset.sum_eq_zero fun r _ => Finset.sum_eq_zero fun p _ => if_neg fun h' => h ?_
    omega

/-- The difference matrix, read at an element: it is `j` exactly where the source position is the first tap's plus `j`. -/
theorem diff_iff (base : IVec S1x128 16) (r : Fin 3) (p u : Fin 128) (b : ℤ) (hb : base (ix2 0 u) = BitVec.ofInt 16 b) (h1 : -1000 ≤ b) (h2 : b ≤ 1000)
    (j : ℕ) (hj : j < 17) : diffOf base r.val (ix2 p u) = BitVec.ofNat 16 j ↔ ((128 * r.val + p.val : ℕ) : ℤ) = b + j := by
  have hd : diffOf base r.val (ix2 p u) = ((BitVec.ofNat 32 p.val).setWidth 16 + BitVec.ofNat 16 (128 * r.val)) - base (ix2 0 u) := by
    unfold diffOf
    pointwise
    rfl
  rw [hd, hb]
  have hr := r.isLt
  have hp := p.isLt
  generalize r.val = r at *
  generalize p.val = p at *
  rw [← BitVec.toNat_inj]
  simp only [BitVec.toNat_sub, BitVec.toNat_add, BitVec.toNat_setWidth, BitVec.toNat_ofNat, BitVec.toNat_ofInt]
  omega

/-- A head at an element: the sum over the window's positions of the values times the band's elements. -/
theorem headOf_at (base : IVec S1x128 16) (g : ℕ → Vec Ideal S1x128 .bf16) (v : Fin 3 → Vec Ideal S64x128 .bf16) (row : Fin 64) (u : Fin 128) :
    headOf (F := Ideal) base g v (ix2 row u) = ∑ r : Fin 3, ∑ p : Fin 128, v r (ix2 row p) * bandTo (F := Ideal) (diffOf base r.val) g 17 (ix2 p u) := by
  rw [Fin.sum_univ_three]
  unfold headOf
  show _ = (∑ p : Fin 128, v 0 (ix2 row p) * bandTo (F := Ideal) (diffOf base 0) g 17 (ix2 p u))
    + (∑ p : Fin 128, v 1 (ix2 row p) * bandTo (F := Ideal) (diffOf base 1) g 17 (ix2 p u)) + ∑ p : Fin 128, v 2 (ix2 row p) * bandTo (F := Ideal) (diffOf base 2) g 17 (ix2 p u)
  generalize bandTo (F := Ideal) (diffOf base 0) g 17 = B0
  generalize bandTo (F := Ideal) (diffOf base 1) g 17 = B1
  generalize bandTo (F := Ideal) (diffOf base 2) g 17 = B2
  generalize v 0 = v0
  generalize v 1 = v1
  generalize v 2 = v2
  pointwise

/-- A head as a sum over source positions. -/
theorem headOf_sum (base : IVec S1x128 16) (g : ℕ → Vec Ideal S1x128 .bf16) (v : Fin 3 → Vec Ideal S64x128 .bf16) (row : Fin 64) (u : Fin 128)
    (b : ℤ) (hb : base (ix2 0 u) = BitVec.ofInt 16 b) (h1 : -1000 ≤ b) (h2 : b ≤ 1000) (f : ℕ → EReal)
    (hf : ∀ (r : Fin 3) (p : Fin 128), v r (ix2 row p) = f (128 * r.val + p.val)) :
    headOf (F := Ideal) base g v (ix2 row u) = ∑ j : Fin 17, if 0 ≤ b + j.val ∧ b + j.val < 384 then f (b + j.val).toNat * g j.val (ix2 0 u) else 0 := by
  rw [headOf_at]
  have e : ∀ (r : Fin 3) (p : Fin 128), v r (ix2 row p) * bandTo (F := Ideal) (diffOf base r.val) g 17 (ix2 p u)
      = ∑ j : Fin 17, if ((128 * r.val + p.val : ℕ) : ℤ) = b + j.val then f (128 * r.val + p.val) * g j.val (ix2 0 u) else 0 := by
    intro r p
    rw [mul_band _ _ _ _ _ _ le_rfl, Finset.sum_range]
    refine Finset.sum_congr rfl fun j _ => ?_
    rw [hf]
    exact if_congr (diff_iff base r p u b hb h1 h2 j.val j.isLt) rfl rfl
  simp only [e]
  have e2 : ∀ r : Fin 3, (∑ p : Fin 128, ∑ j : Fin 17, if ((128 * r.val + p.val : ℕ) : ℤ) = b + j.val then f (128 * r.val + p.val) * g j.val (ix2 0 u) else 0)
      = ∑ j : Fin 17, ∑ p : Fin 128, if ((128 * r.val + p.val : ℕ) : ℤ) = b + j.val then f (128 * r.val + p.val) * g j.val (ix2 0 u) else 0 :=
    fun r => Finset.sum_comm
  simp only [e2]
  rw [Finset.sum_comm]
  refine Finset.sum_congr rfl fun j _ => ?_
  exact pick (fun s => f s * g j.val (ix2 0 u)) (b + j.val)

/-- Reads of the tables' blocks. -/
theorem cRow_at (i : grid0.Coords) (C : Vec Ideal S16x8192 .i32) (h : Fin 16) (u : Fin 128) :
    cRow (F := Ideal) i C h (ix2 0 u) = C (ValueIdx.ix2 h (colAt (m0 i + u.val))) := rfl
theorem gRow_at (i : grid0.Coords) (G : Vec Ideal S272x8192 .bf16) (h : Fin 16) (j : Fin 17) (u : Fin 128) :
    gRow (F := Ideal) i G h j (ix2 0 u) = G (ValueIdx.ix2 ⟨16 * j.val + h.val, by omega⟩ (colAt (m0 i + u.val))) := rfl
theorem vBlk_at (i : grid0.Coords) (V : Vec Ideal S1024x8192 .bf16) (h : Fin 16) (r : Fin 3) (row : Fin 64) (p : Fin 128) :
    vBlk (F := Ideal) i V h r (ix2 row p) = V (ValueIdx.ix2 ⟨64 * h.val + row.val, by omega⟩ (colAt (p0 i r + p.val))) := rfl
theorem baseOf_at (i : grid0.Coords) (C : Vec Ideal S1x128 .i32) (u : Fin 128) :
    baseOf (F := Ideal) i C (ix2 0 u) = (BitVec.ofNat 32 u.val + (C (ix2 0 u) + kernelRun0_B.sl.v50 i)).setWidth 16 := by
  unfold baseOf
  generalize kernelRun0_B.sl.v50 i = w
  pointwise
  rfl

/-- The 16-bit sum of three small whole numbers. -/
theorem sum_word (u : ℕ) (z w : ℤ) : (BitVec.ofNat 32 u + (BitVec.ofInt 32 z + BitVec.ofInt 32 w)).setWidth 16 = BitVec.ofInt 16 (w + u + z) := by
  rw [← BitVec.toNat_inj]
  simp only [BitVec.toNat_add, BitVec.toNat_setWidth, BitVec.toNat_ofNat, BitVec.toNat_ofInt]
  omega

variable (m : (ℓ : Loc nD τ sig) → Buf (Elt Ideal) ℓ) (c : Dev nD)

/-- The first tap's position relative to the window. -/
theorem base_at (t : Fin cfg0.N) (ht : 16 ≤ t.val) (h : Fin 16) (u : Fin 128) (n : Fin 8192) (hn : n.val = 4096 * batOf t.val + locOf t.val + u.val) :
    baseOf (F := Ideal) (grid0.coords t) (cRow (grid0.coords t) (CT m c) h) (ix2 0 u)
      = BitVec.ofInt 16 ((locOf t.val : ℤ) - winOf t.val - 8 + u.val + offZ (argsK m c) n h) := by
  obtain ⟨h1, h2⟩ := offZ_bounds (argsK m c) n h
  have e : colAt (m0 (grid0.coords t) + u.val) = n := Fin.ext (by rw [m0_eq t ht, ← hn, colAt_val n.isLt])
  rw [baseOf_at, cRow_at, e, CT_at, off_floor, fptosi_coe _ (by omega) (by omega), v50_eq t ht, sum_word]

/-- One head of the block: for every position, the sum over the seventeen source positions. -/
theorem headT_at (t : Fin cfg0.N) (ht : 16 ≤ t.val) (h : Fin 16) (row : Fin 64) (u : Fin 128) (n : Fin 8192)
    (hn : n.val = 4096 * batOf t.val + locOf t.val + u.val) (q : Fin 1024) (hq : q.val = 64 * h.val + row.val) :
    headT (F := Ideal) (grid0.coords t) (VT m c) (GT m c) (CT m c) h (ix2 row u)
      = ∑ j : Fin 17, tv (argsK m c) (bat n) q (src (argsK m c) n h + j.val) * gS (argsK m c) n h j := by
  have hN : t.val < 80 := lt_of_lt_of_eq t.isLt N_0
  obtain ⟨z1, z2⟩ := offZ_bounds (argsK m c) n h
  have hl : locOf t.val + 128 ≤ 4096 := by unfold locOf; omega
  have hw : winOf t.val ≤ 3712 := by unfold winOf; omega
  have hw2 : winOf t.val = min (locOf t.val - 128) 3712 := rfl
  have hB : batOf t.val < 2 := by unfold batOf; omega
  have hu := u.isLt
  have hbat : (bat n).val = batOf t.val := by show n.val / 4096 = _; omega
  have hpos : pos n = locOf t.val + u.val := by show n.val % 4096 = _; omega
  unfold headT
  rw [headOf_sum _ _ _ row u ((locOf t.val : ℤ) - winOf t.val - 8 + u.val + offZ (argsK m c) n h) (base_at m c t ht h u n hn) (by omega) (by omega)
    (fun s => val (argsK m c) (colAt (4096 * batOf t.val + winOf t.val + s)) q) (fun r p => ?_)]
  · refine Finset.sum_congr rfl fun j _ => ?_
    have hj := j.isLt
    have hg : (if hj : j.val < 17 then gRow (grid0.coords t) (GT m c) h ⟨j.val, hj⟩ else broadcast S1x128 (Scalar.ofBits (F := Ideal) .bf16 0x0000#16)) (ix2 0 u)
        = gS (argsK m c) n h j := by
      rw [dif_pos hj]
      have e : colAt (m0 (grid0.coords t) + u.val) = n := Fin.ext (by rw [m0_eq t ht, ← hn, colAt_val n.isLt])
      rw [gRow_at, e]
      exact GT_at m c h j n
    rw [hg]
    have hs : src (argsK m c) n h + j.val = (winOf t.val : ℤ) + ((locOf t.val : ℤ) - winOf t.val - 8 + u.val + offZ (argsK m c) n h + j.val) := by
      unfold src
      rw [hpos]
      push_cast
      ring
    rw [hs]
    generalize hE : (locOf t.val : ℤ) - winOf t.val - 8 + u.val + offZ (argsK m c) n h + j.val = E
    unfold tv
    by_cases hin : 0 ≤ E ∧ E < 384
    · have hin2 : 0 ≤ (winOf t.val : ℤ) + E ∧ (winOf t.val : ℤ) + E < 4096 := by omega
      rw [if_pos hin, dif_pos hin2]
      congr 2
      refine Fin.ext ?_
      show (colAt (4096 * batOf t.val + winOf t.val + E.toNat)).val = 4096 * (bat n).val + ((winOf t.val : ℤ) + E).toNat
      rw [colAt_val (by omega), hbat]
      omega
    · rw [if_neg hin, dif_neg (by omega), zero_mul]
  · have hp := p.isLt
    have hr := r.isLt
    have e : colAt (p0 (grid0.coords t) r + p.val) = colAt (4096 * batOf t.val + winOf t.val + (128 * r.val + p.val)) := by
      rw [p0_eq t ht]; congr 1; omega
    have eq : (⟨64 * h.val + row.val, by omega⟩ : Fin 1024) = q := Fin.ext hq.symm
    rw [vBlk_at, e, VT_at, eq]

/-- The block of hidden values: every element is the sum over source positions. -/
theorem hiddenT_at (t : Fin cfg0.N) (ht : 16 ≤ t.val) (q : Fin 1024) (u : Fin 128) (n : Fin 8192) (hn : n.val = 4096 * batOf t.val + locOf t.val + u.val) :
    hiddenT (F := Ideal) (grid0.coords t) (VT m c) (GT m c) (CT m c) (ix2 q u)
      = ∑ j : Fin 17, tv (argsK m c) (bat n) q (src (argsK m c) n (hd q) + j.val) * gS (argsK m c) n (hd q) j := by
  unfold hiddenT
  refine (concatenate_ofFn_apply (t := S1024x128) (s₁ := S64x128) 0 (fun h => headT (F := Ideal) (grid0.coords t) (VT m c) (GT m c) (CT m c) h) _ rfl 64 rfl
    (ix2 q u) (hd q) rfl (ix2 (⟨q.val % 64, Nat.mod_lt _ (by decide)⟩ : Fin 64) u) rfl (Fin.forall_fin_two.mpr ⟨fun h => absurd rfl h, fun _ => rfl⟩)).trans ?_
  exact headT_at m c t ht (hd q) _ u n hn q (by show q.val = 64 * (q.val / 64) + q.val % 64; omega)

end Cert.KernelIdeal.Gen

end
-- ==== Proof.KOut.lean ====
/- The result array of the kernel's run: element by element the layer's output, and the run that ends with it. -/
module

public import proofs.«01_k».proof.Proof.KConv
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Pipeline (Dat Cfg Window)
open Cert.Spec

theorem pay4_at (H : Vec Ideal S1024x128 .bf16) (W : Vec Ideal S1024x1024 .bf16) (u : Fin 128) (q : Fin 1024) :
    k0_pay4 (F := Ideal) H W (ix2 u q)
      = (∑ k : Fin 1024, H (ix2 k u) * W (ix2 q k)) * Ideal.logistic (∑ k : Fin 1024, H (ix2 k u) * W (ix2 q k)) := by
  unfold k0_pay4
  pointwise

variable (m : (ℓ : Loc nD τ sig) → Buf (Elt Ideal) ℓ) (ρ : Dev nD → PrngReg) (c : Dev nD)

theorem ow_arg (t : Fin cfg0.N) (q k : Fin 1024) : iblk m c 8 t (ix2 q k) = (argsK m c).Wout q k :=
  (ow_at m c t q k).trans (v18_at m c q k)

/-- The block of the result that a convolution point writes. -/
theorem outT_at (H : Fin' (argsK m c)) (t : Fin cfg0.N) (ht : 16 ≤ t.val) (u : Fin 128) (q : Fin 1024) (n : Fin 8192)
    (hn : n.val = 4096 * batOf t.val + locOf t.val + u.val) : outT m c t (ix2 u q) = out (argsK m c) n q := by
  have e : ∀ k : Fin 1024, hiddenT (F := Ideal) (grid0.coords t) (VT m c) (GT m c) (CT m c) (ix2 k u) * iblk m c 8 t (ix2 q k)
      = hid (argsK m c) n k * (argsK m c).Wout q k := fun k => by
    rw [hiddenT_at m c t ht k u n hn, hid_eq H, ow_arg]
  have es := Finset.sum_congr (rfl : (Finset.univ : Finset (Fin 1024)) = Finset.univ) (fun k _ => e k)
  unfold outT
  rw [pay4_at, es]
  rfl

/-- The result as the kernel's call returns it. -/
def resK : Vec Ideal S8192x1024 .f32 := fun y => out (argsK m c) (y 0) (y 1)

theorem idx9 : ∀ t : Fin cfg0.N, win0_9.index t = ![t.val - 16, 0] :=
  (by decide +kernel : ∀ t : Fin grid0.N, win0_9.index t = ![t.val - 16, 0])

theorem flush9 : ∀ t : Fin cfg0.N, (cfg0.win 9).flush t = true → 16 ≤ t.val :=
  (by decide +kernel : ∀ t : Fin grid0.N, (cfg0.win 9).flush t = true → 16 ≤ t.val)

theorem final9 (H : Fin' (argsK m c)) : (dats m 0 c).arrAt 9 cfg0.N = resK m c := by
  refine (dats m 0 c).arrAt_eq_of_covers 9 _ (by decide +kernel) fun t hf y => ?_
  have ht := flush9 t hf
  blk_simp
  rw [after0_9]
  have e0 : ((win0_9.blk t).view.emb y 0).val = 4096 * batOf t.val + locOf t.val + (y 0).val := by
    blk_simp [idx9 t]
    show (t.val - 16) * 128 + (y 0).val = 4096 * ((t.val - 16) / 32) + 128 * ((t.val - 16) % 32) + (y 0).val
    omega
  have e1 : (win0_9.blk t).view.emb y 1 = y 1 := Fin.ext (by
    blk_simp [idx9 t])
  have hy : y = ix2 (y 0) (y 1) := by
    funext a
    match a with
    | ⟨0, _⟩ => rfl
    | ⟨1, _⟩ => rfl
  have h := outT_at m c H t ht (y 0) (y 1) _ e0
  refine (congrArg (outT m c t) hy).trans (h.trans ?_)
  unfold resK
  rw [e1]

/-- The result with its batches: what the program returns. -/
def resT : Vec Ideal S2x4096x1024 .f32 := fun y => out (argsK m c) ⟨4096 * (y 0).val + (y 1).val, by have h0 := (y 0).isLt; have h1 := (y 1).isLt; change (y 0).val < 2 at h0; change (y 1).val < 4096 at h1; omega⟩ (y 2)

theorem cast_at (X : Vec Ideal S8192x1024 .f32) (b : Fin 2) (p : Fin 4096) (q : Fin 1024) :
    shapeCast S2x4096x1024 X shapeCasts_S8192x1024_S2x4096x1024 (ix3 b p q) = X (ix2 ⟨4096 * b.val + p.val, by omega⟩ q) := by
  pointwise
  exact congrArg X (congrArg (fun z => ix2 z q) (Fin.ext (by show b.val * 4096 + p.val = 4096 * b.val + p.val; omega)))

/-- So the program's result is the layer's output. -/
theorem tail_at (H : Fin' (argsK m c)) : Pipeline.afterTail₀ cfgs (dats m) 0 (V0 m) [hostOps1] c main_v20 = resT m c := by
  unfold Pipeline.afterTail₀
  have hinj : Function.Injective (Pipeline.arrRef spec0) := by decide
  rw [show ([hostOps1].flatten : List (HloOp τ sig (Elt Ideal))) = [StableHlo.reshape main_v19 main_v20 (rfl : (.f32 : EltTy) = .f32) shapeCasts_S8192x1024_S2x4096x1024] from rfl,
    StableHlo.after_cons, StableHlo.after_nil]
  have h9 : Pipeline.withArrays spec0 c (V0 m c) (fun w => (dats m 0 c).arrAt w cfg0.N) (Proc.devRef .tc main_v19) = resK m c :=
    (Pipeline.withArrays_arr spec0 hinj c (V0 m c) (fun w => (dats m 0 c).arrAt w cfg0.N) 9).trans (final9 m c H)
  rw [StableHlo.reshape_result']
  refine Eq.trans (b := shapeCast S2x4096x1024 (Pipeline.withArrays spec0 c (V0 m c) (fun w => (dats m 0 c).arrAt w cfg0.N) (Proc.devRef .tc main_v19)) shapeCasts_S8192x1024_S2x4096x1024) rfl ?_
  rw [h9]
  funext y
  have hy : y = ix3 (y 0) (y 1) (y 2) := by
    funext a
    match a with
    | ⟨0, _⟩ => rfl
    | ⟨1, _⟩ => rfl
    | ⟨2, _⟩ => rfl
  exact (congrArg _ hy).trans (cast_at (resK m c) (y 0) (y 1) (y 2))

/-- The kernel's run ends with the layer's output. -/
theorem run_value (H : ∀ c, Fin' (argsK m c)) : θ_run defs (onTc (τ := τ) (main (F := Ideal))) ⟨m, fun _ => 0, ρ⟩
    (fun r => ∀ c : Dev nD, r.2.mem ((c.tc : Thread nD τ).loc main_v20) = resT m c) :=
  (θ_run defs _ _).mono (fun r h c => ((h.1 c).2 main_v20 (by decide +kernel)).trans (tail_at m c (H c))) (run_main_quiescent m ρ)

end Cert.KernelIdeal.Gen

end
-- ==== Proof.RHead.lean ====
/- The reference's projections, offsets, widths, kernels and values, element by element. -/
module

public import proofs.«01_k».proof.Proof.Gen.ReferenceIdeal.Read
public import proofs.«01_k».proof.Proof.SpecFacts
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic
open Cert.Spec

variable (x0 : Vec Ideal S2x4096x1024 .f32) (x1 : Vec Ideal S16x1024 .f32) (x2 x3 : Vec Ideal S16 .f32) (x4 : Vec Ideal S16x1024 .f32)
  (x5 x6 : Vec Ideal S16 .f32) (x7 : Vec Ideal S256x1024 .f32) (x8 x9 : Vec Ideal S256 .f32) (x10 : Vec Ideal S1024x1024 .f32)
  (x11 : Vec Ideal S1024 .f32) (x12 : Vec Ideal S1024x1024 .f32)

/-- The arguments by coordinates. -/
abbrev A : Args := argsOf x0 x1 x2 x3 x4 x5 x6 x7 x8 x9 x10 x11 x12

local notation "𝔸" => A x0 x1 x2 x3 x4 x5 x6 x7 x8 x9 x10 x11 x12

/-- Position `p` of batch `b` among the positions of both batches. -/
def nAt (b : Fin 2) (p : Fin 4096) : Fin 8192 := ⟨b.val * 4096 + p.val, by omega⟩

theorem v5_at (n : Fin 8192) (r : Fin 16) : val_main_v5 (F := Ideal) x0 x1 x2 (ix2 n r) = lin (𝔸).Ww (𝔸).bw ((𝔸).X n) r := by
  unfold val_main_v5 val_main_v4 val_main_v3 val_main_v2 val_main_v1 val_main_v0
  pointwise
  rfl

theorem v36_at (n : Fin 8192) (r : Fin 16) : val_main_v36 (F := Ideal) x0 x4 x5 (ix2 n r) = lin (𝔸).Wo (𝔸).bo ((𝔸).X n) r := by
  unfold val_main_v36 val_main_v35 val_main_v34 val_main_v33 val_main_v32 val_main_v0
  pointwise
  rfl

theorem v58_at (n : Fin 8192) (r : Fin 256) : val_main_v58 (F := Ideal) x0 x7 x8 (ix2 n r) = lin (𝔸).Wk (𝔸).bk ((𝔸).X n) r := by
  unfold val_main_v58 val_main_v57 val_main_v56 val_main_v55 val_main_v54 val_main_v0
  pointwise
  rfl

theorem v84_at (n : Fin 8192) (q : Fin 1024) : val_main_v84 (F := Ideal) x0 x10 x11 (ix2 n q) = val 𝔸 n q := by
  unfold val_main_v84 val_main_v83 val_main_v82 val_main_v81 val_main_v80 val_main_v0
  pointwise
  rfl

theorem v18_at (n : Fin 8192) (r : Fin 16) : val_main_v18 (F := Ideal) x0 x1 x2 x3 (ix2 n r)
    = normed (bits 0x41800000#32) (lin (𝔸).Ww (𝔸).bw ((𝔸).X n)) (𝔸).gw r := by
  have e : (fun r => val_main_v5 (F := Ideal) x0 x1 x2 (ix2 n r)) = lin (𝔸).Ww (𝔸).bw ((𝔸).X n) :=
    funext fun r => v5_at x0 x1 x2 x3 x4 x5 x6 x7 x8 x9 x10 x11 x12 n r
  rw [← e]
  show _ = normed (bits 0x41800000#32) (fun r => val_main_v5 (F := Ideal) x0 x1 x2 (ix2 n r)) (fun r => x3 (ix1 r)) r
  unfold val_main_v18 val_main_v17 val_main_v16 val_main_v15 val_main_v14 val_main_v13 val_main_v12 val_main_v11 val_main_v10 val_main_v9 val_main_v8 val_main_v7 val_main_v6
    val_main_cst val_main_cst_0 val_main_cst_1 normed scale
  generalize val_main_v5 (F := Ideal) x0 x1 x2 = y
  pointwise

theorem v49_at (n : Fin 8192) (r : Fin 16) : val_main_v49 (F := Ideal) x0 x4 x5 x6 (ix2 n r)
    = normed (bits 0x41800000#32) (lin (𝔸).Wo (𝔸).bo ((𝔸).X n)) (𝔸).go r := by
  have e : (fun r => val_main_v36 (F := Ideal) x0 x4 x5 (ix2 n r)) = lin (𝔸).Wo (𝔸).bo ((𝔸).X n) :=
    funext fun r => v36_at x0 x1 x2 x3 x4 x5 x6 x7 x8 x9 x10 x11 x12 n r
  rw [← e]
  show _ = normed (bits 0x41800000#32) (fun r => val_main_v36 (F := Ideal) x0 x4 x5 (ix2 n r)) (fun r => x6 (ix1 r)) r
  unfold val_main_v49 val_main_v48 val_main_v47 val_main_v46 val_main_v45 val_main_v44 val_main_v43 val_main_v42 val_main_v41 val_main_v40 val_main_v39 val_main_v38 val_main_v37
    val_main_cst_7 val_main_cst_8 val_main_cst_9 normed scale
  generalize val_main_v36 (F := Ideal) x0 x4 x5 = y
  pointwise

theorem v71_at (n : Fin 8192) (r : Fin 256) : val_main_v71 (F := Ideal) x0 x7 x8 x9 (ix2 n r)
    = normed (bits 0x43800000#32) (lin (𝔸).Wk (𝔸).bk ((𝔸).X n)) (𝔸).gk r := by
  have e : (fun r => val_main_v58 (F := Ideal) x0 x7 x8 (ix2 n r)) = lin (𝔸).Wk (𝔸).bk ((𝔸).X n) :=
    funext fun r => v58_at x0 x1 x2 x3 x4 x5 x6 x7 x8 x9 x10 x11 x12 n r
  rw [← e]
  show _ = normed (bits 0x43800000#32) (fun r => val_main_v58 (F := Ideal) x0 x7 x8 (ix2 n r)) (fun r => x9 (ix1 r)) r
  unfold val_main_v71 val_main_v70 val_main_v69 val_main_v68 val_main_v67 val_main_v66 val_main_v65 val_main_v64 val_main_v63 val_main_v62 val_main_v61 val_main_v60 val_main_v59
    val_main_cst_11 val_main_cst_12 val_main_cst_13 normed scale
  generalize val_main_v58 (F := Ideal) x0 x7 x8 = y
  pointwise

theorem v31_at (b : Fin 2) (p : Fin 4096) (h : Fin 16) : val_main_v31 (F := Ideal) x0 x1 x2 x3 (ix3 b p h) = half 𝔸 (nAt b p) h := by
  have e := v18_at x0 x1 x2 x3 x4 x5 x6 x7 x8 x9 x10 x11 x12 (nAt b p) h
  unfold half
  rw [← e]
  unfold val_main_v31 val_main_v30 val_main_v29 val_main_v28 val_main_v27 val_main_v26 val_main_v25 val_main_v24 val_main_v23 val_main_v22 val_main_v21 val_main_v20 val_main_v19
    val_main_cst_2 val_main_cst_3 val_main_cst_4 val_main_cst_5 val_main_cst_6
  generalize val_main_v18 (F := Ideal) x0 x1 x2 x3 = y
  pointwise
  rfl

theorem v53_at (b : Fin 2) (p : Fin 4096) (h : Fin 16) : val_main_v53 (F := Ideal) x0 x4 x5 x6 (ix3 b p h) = off 𝔸 (nAt b p) h := by
  have e := v49_at x0 x1 x2 x3 x4 x5 x6 x7 x8 x9 x10 x11 x12 (nAt b p) h
  unfold off
  rw [← e]
  unfold val_main_v53 val_main_v52 val_main_v51 val_main_v50 val_main_cst_10
  generalize val_main_v49 (F := Ideal) x0 x4 x5 x6 = y
  pointwise
  rfl

theorem v79_at (b : Fin 2) (p : Fin 4096) (h k : Fin 16) : val_main_v79 (F := Ideal) x0 x7 x8 x9 (ix4 b p h k)
    = kn 𝔸 (nAt b p) h k * Ideal.logistic (kn 𝔸 (nAt b p) h k) := by
  have e := v71_at x0 x1 x2 x3 x4 x5 x6 x7 x8 x9 x10 x11 x12 (nAt b p) ⟨16 * h.val + k.val, by omega⟩
  unfold kn
  rw [← e]
  unfold val_main_v79 val_main_v78 val_main_v77 val_main_v76 val_main_v75 val_main_v74 val_main_v73 val_main_v72 val_main_cst_14 val_main_cst_15
  generalize val_main_v71 (F := Ideal) x0 x7 x8 x9 = y
  rw [show (⟨16 * h.val + k.val, by omega⟩ : Fin 256) = ⟨h.val * 16 + k.val, by omega⟩ from Fin.ext (show 16 * h.val + k.val = h.val * 16 + k.val by omega)]
  pointwise
  rfl

theorem v86_at (b : Fin 2) (p : Fin 4096) (h : Fin 16) (d : Fin 64) : val_main_v86 (F := Ideal) x0 x10 x11 (ix4 b p h d)
    = val 𝔸 (nAt b p) ⟨64 * h.val + d.val, by omega⟩ := by
  have e := v84_at x0 x1 x2 x3 x4 x5 x6 x7 x8 x9 x10 x11 x12 (nAt b p) ⟨64 * h.val + d.val, by omega⟩
  rw [← e]
  unfold val_main_v86 val_main_v85
  generalize val_main_v84 (F := Ideal) x0 x10 x11 = y
  rw [show (⟨64 * h.val + d.val, by omega⟩ : Fin 1024) = ⟨h.val * 64 + d.val, by omega⟩ from Fin.ext (show 64 * h.val + d.val = h.val * 64 + d.val by omega)]
  pointwise
  rfl

end Cert.ReferenceIdeal.Read

end
-- ==== Proof.RTap.lean ====
/- The reference's taps: positions, masks, gathered values and weights, element by element. -/
module

public import proofs.«01_k».proof.Proof.RHead
public import proofs.«01_k».proof.Proof.Gen.ReferenceIdeal.Read
public import proofs.«01_k».proof.Proof.SpecFacts
public import Idealize.ShloMosaic.Lib.ReduceAll
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic
open Cert.Spec

variable (x0 : Vec Ideal S2x4096x1024 .f32) (x1 : Vec Ideal S16x1024 .f32) (x2 x3 : Vec Ideal S16 .f32) (x4 : Vec Ideal S16x1024 .f32)
  (x5 x6 : Vec Ideal S16 .f32) (x7 : Vec Ideal S256x1024 .f32) (x8 x9 : Vec Ideal S256 .f32) (x10 : Vec Ideal S1024x1024 .f32)
  (x11 : Vec Ideal S1024 .f32) (x12 : Vec Ideal S1024x1024 .f32) (A₀ : Args)

local notation "𝔸" => A x0 x1 x2 x3 x4 x5 x6 x7 x8 x9 x10 x11 x12

theorem bits_8 : Ideal.ofBits FTy.f32 1090519040#32 = ((8 : ℝ) : EReal) := by
  simp [Ideal.ofBits, Ideal.ieee, -EReal.coe_mul]; norm_num

/-- A small number's value as a float. -/
theorem sitofp_small (n : ℕ) (h : n < 10000) : (FloatOps.sitofp (F := Ideal) FTy.f32 (BitVec.ofNat 32 n)) = (((n : ℝ) : ℝ) : EReal) := by
  show (((BitVec.ofNat 32 n).toInt : ℝ) : EReal) = _
  have : (BitVec.ofNat 32 n).toInt = (n : ℤ) := by
    rw [BitVec.toInt_eq_toNat_cond, BitVec.toNat_ofNat]
    have h' : n % 2 ^ 32 = n := by omega
    rw [h', if_pos (by omega)]
  rw [this]
  norm_cast

theorem v99_at (b : Fin 2) (p : Fin 4096) (k h : Fin 16) : val_main_v99 (F := Ideal) x0 x4 x5 x6 (ix4 b p k h)
    = (((p.val : ℝ) : EReal) + off 𝔸 (nAt b p) h) + (((k.val : ℝ) : EReal) - ((8 : ℝ) : EReal)) := by
  have e := v53_at x0 x1 x2 x3 x4 x5 x6 x7 x8 x9 x10 x11 x12 b p h
  rw [← e, ← sitofp_small p.val (by omega), ← sitofp_small k.val (by omega), ← bits_8]
  unfold val_main_v99 val_main_v98 val_main_v97 val_main_v96 val_main_v95 val_main_v94 val_main_v93 val_main_v92 val_main_v91 val_main_v90 val_main_v89 val_main_v88 val_main_v87 val_main_cst_16
  generalize val_main_v53 (F := Ideal) x0 x4 x5 x6 = y
  pointwise

/-- The position of tap `k`: a whole part and a fractional part. -/
theorem posf_split (n : Fin 8192) (h k : Fin 16) (p : ℕ) (hp : p = pos n) :
    Ideal.liftRound Int.floor ((((p : ℝ) : EReal) + off A₀ n h) + (((k.val : ℝ) : EReal) - ((8 : ℝ) : EReal))) = (((src A₀ n h + k.val : ℤ) : ℝ) : EReal)
    ∧ ((((p : ℝ) : EReal) + off A₀ n h) + (((k.val : ℝ) : EReal) - ((8 : ℝ) : EReal))) - (((src A₀ n h + k.val : ℤ) : ℝ) : EReal) = frac A₀ n h := by
  obtain ⟨r, hr, h1, h2⟩ := off_real A₀ n h
  have hz : offZ A₀ n h = ⌊r⌋ := by unfold offZ; rw [hr, EReal.toReal_coe]
  have hs : src A₀ n h = (p : ℤ) - 8 + ⌊r⌋ := by unfold src; rw [hz, hp]
  unfold frac
  rw [off_floor, hz, hs, hr, ← EReal.coe_add, ← EReal.coe_sub, ← EReal.coe_add, ← EReal.coe_sub, ← EReal.coe_sub]
  constructor
  · show (((⌊(p : ℝ) + r + ((k.val : ℝ) - 8)⌋ : ℤ) : ℝ) : EReal) = _
    have : (p : ℝ) + r + ((k.val : ℝ) - 8) = r + (((p : ℤ) - 8 + (k.val : ℤ) : ℤ) : ℝ) := by push_cast; ring
    rw [this, Int.floor_add_intCast]
    congr 2
    ring
  · congr 1
    push_cast
    ring

/-- The index into the values that a tap's position is brought to. -/
def clampW (w : BitVec 32) : BitVec 32 := IntOp.minsi 4095#32 (IntOp.maxsi 0#32 w)

theorem clampW_toInt (w : BitVec 32) : (clampW w).toInt = max 0 (min w.toInt 4095) := by
  have e0 : (0#32 : BitVec 32).toInt = 0 := by decide
  have e1 : (4095#32 : BitVec 32).toInt = 4095 := by decide
  unfold clampW IntOp.minsi IntOp.maxsi
  by_cases h : w.toInt < 0
  · have h1 : w.slt 0#32 = true := by rw [BitVec.slt_iff_toInt_lt, e0]; exact h
    rw [if_pos h1, if_neg (by rw [BitVec.slt_iff_toInt_lt, e0, e1]; omega), e0]
    omega
  · have h1 : ¬ w.slt 0#32 = true := by rw [BitVec.slt_iff_toInt_lt, e0]; exact h
    rw [if_neg h1]
    by_cases h2 : 4095 < w.toInt
    · rw [if_pos (by rw [BitVec.slt_iff_toInt_lt, e1]; exact h2), e1]; omega
    · rw [if_neg (by rw [BitVec.slt_iff_toInt_lt, e1]; exact h2)]; omega

theorem toInt_small (z : ℤ) (h1 : -10000 ≤ z) (h2 : z ≤ 10000) : (BitVec.ofInt 32 z).toInt = z := by
  rw [BitVec.toInt_ofInt, Int.bmod_def]; norm_num; omega

/-- The gather of rows, read at an index. -/
theorem gather_at {w : ℕ} (x : S2x4096x16x64.Idx → EReal) (idx : IVec S2x65536x16x1 w) (b : Fin 2) (r : Fin 65536) (h : Fin 16) (d : Fin 64) :
    Host.gather gather_S2x4096x16x64_S2x65536x16x1_S2x65536x16x64_3_1_02_02_1_3_11164 x idx (ix4 b r h d)
      = x (ix4 b ⟨min (idx (ix4 b r h 0)).toInt.toNat 4095, by omega⟩ h d) := by
  unfold Host.gather
  congr 1
  funext a
  refine Fin.ext ?_
  show (gather_S2x4096x16x64_S2x65536x16x1_S2x65536x16x64_3_1_02_02_1_3_11164).start (ix4 b r h d) idx a
    + (gather_S2x4096x16x64_S2x65536x16x1_S2x65536x16x64_3_1_02_02_1_3_11164).batchCoord (ix4 b r h d) a
    + (gather_S2x4096x16x64_S2x65536x16x1_S2x65536x16x64_3_1_02_02_1_3_11164).offCoord (ix4 b r h d) a = _
  have ha : a = (0 : Fin 4) ∨ a = (1 : Fin 4) ∨ a = (2 : Fin 4) ∨ a = (3 : Fin 4) := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (by decide), GatherDims.offCoord_eq_zero _ _ _ (by decide)]
    unfold GatherDims.batchCoord
    rw [dif_pos (by decide)]
    show 0 + b.val + 0 = b.val
    omega
  · rw [GatherDims.batchCoord_eq_zero _ _ _ (by decide), GatherDims.offCoord_eq_zero _ _ _ (by decide)]
    unfold GatherDims.start
    rw [dif_pos (by decide)]
    have e : (gather_S2x4096x16x64_S2x65536x16x1_S2x65536x16x64_3_1_02_02_1_3_11164).siIdx (ix4 b r h d)
        ⟨List.idxOf (1 : Fin 4) (gather_S2x4096x16x64_S2x65536x16x1_S2x65536x16x64_3_1_02_02_1_3_11164).startIndexMap,
          List.idxOf_lt_length_iff.2 (by decide)⟩ = ix4 b r h (0 : Fin 1) := by
      funext c; refine Fin.ext ?_
      match c with
      | ⟨0, _⟩ => rfl
      | ⟨1, _⟩ => rfl
      | ⟨2, _⟩ => rfl
      | ⟨3, _⟩ => rfl
    rw [e]
    rfl
  · rw [GatherDims.start_batching _ _ _ _ (by decide), GatherDims.offCoord_eq_zero _ _ _ (by decide)]
    unfold GatherDims.batchCoord
    rw [dif_pos (by decide)]
    show 0 + h.val + 0 = h.val
    omega
  · rw [GatherDims.batchCoord_eq_zero _ _ _ (by decide)]
    unfold GatherDims.start GatherDims.offCoord
    rw [dif_neg (by decide), dif_pos (by decide)]
    show 0 + 0 + d.val = d.val
    omega

/-- Tap `k` of position `p` among the positions' taps. -/
def tapAt (p : Fin 4096) (k : Fin 16) : Fin 65536 := ⟨p.val * 16 + k.val, by omega⟩

theorem tapAt_div_lt (p : Fin 4096) (k : Fin 16) : (tapAt p k).val / 16 < 4096 := by unfold tapAt; show (p.val * 16 + k.val) / 16 < 4096; omega
theorem tapAt_mod_lt (p : Fin 4096) (k : Fin 16) : (tapAt p k).val % 16 < 16 := by unfold tapAt; show (p.val * 16 + k.val) % 16 < 16; omega
theorem tapAt_div (p : Fin 4096) (k : Fin 16) : (⟨(tapAt p k).val / 16, tapAt_div_lt p k⟩ : Fin 4096) = p :=
  Fin.ext (by unfold tapAt; show (p.val * 16 + k.val) / 16 = p.val; omega)
theorem tapAt_mod (p : Fin 4096) (k : Fin 16) : (⟨(tapAt p k).val % 16, tapAt_mod_lt p k⟩ : Fin 16) = k :=
  Fin.ext (by unfold tapAt; show (p.val * 16 + k.val) % 16 = k.val; omega)

theorem nonneg_clampW (w : BitVec 32) : (clampW w).slt 0#32 = false ∧ (0#32 : BitVec 32).sle (clampW w) = true ∧ (clampW w).sle 4095#32 = true := by
  have e0 : (0#32 : BitVec 32).toInt = 0 := by decide
  have e1 : (4095#32 : BitVec 32).toInt = 4095 := by decide
  have h := clampW_toInt w
  refine ⟨?_, ?_, ?_⟩
  · rw [← Bool.not_eq_true, BitVec.slt_iff_toInt_lt, e0]; omega
  · rw [BitVec.sle_iff_toInt_le, e0]; omega
  · rw [BitVec.sle_iff_toInt_le, e1]; omega

/-- The row an index names. -/
def rowAt (w : BitVec 32) : Fin 4096 := ⟨min w.toInt.toNat 4095, by omega⟩

/-- The clamped positions as a column of indices. -/
def ixCol (w : IVec S2x4096x16x16 32) : IVec S2x65536x16x1 32 :=
  broadcastInDim S2x65536x16x1 ![0, 1, 2] bcast_S2x65536x16_S2x65536x16x1_0_1_2
    (shapeCast _ (minsi (broadcastInDim S2x4096x16x16 ![] bcast_S_S2x4096x16x16 (constantI S_ 32 4095#32))
      (maxsi (broadcastInDim S2x4096x16x16 ![] bcast_S_S2x4096x16x16 (constantI S_ 32 0#32)) w)) shapeCasts_S2x4096x16x16_S2x65536x16)

/-- Negative indices counted from the end. -/
def wrapped (I : IVec S2x65536x16x1 32) : IVec S2x65536x16x1 32 :=
  select (cmpi .slt I (broadcastInDim S2x65536x16x1 ![] bcast_S_S2x65536x16x1 (constantI S_ 32 0#32)))
    (addi I (broadcastInDim S2x65536x16x1 ![] bcast_S_S2x65536x16x1 (constantI S_ 32 4096#32))) I

/-- Whether an index lies in the sequence. -/
def inRange (J : IVec S2x65536x16x1 32) : IVec S2x65536x16x1 1 :=
  andi (cmpi .sge J (broadcastInDim S2x65536x16x1 ![] bcast_S_S2x65536x16x1 (constantI S_ 32 0#32)))
    (cmpi .sle J (broadcastInDim S2x65536x16x1 ![0, 1, 2, 3] bcast_S1x1x1x1_S2x65536x16x1_0_1_2_3
      (broadcastInDim S1x1x1x1 ![3] bcast_S1_S1x1x1x1_3 (constantI S1 32 4095#32))))

/-- Rows taken where the index lies in the sequence. -/
def masked (c : IVec S2x65536x16x1 1) (g : Vec Ideal S2x65536x16x64 .f32) : Vec Ideal S2x65536x16x64 .f32 :=
  select (broadcastInDim S2x65536x16x64 ![0, 1, 2] bcast_S2x65536x16_S2x65536x16x64_0_1_2
      (Host.reduce IntOp.andi c (constantI S_ 1 1#1) reducesTo_S2x65536x16x1_S2x65536x16_d3 h_S_))
    g (broadcastInDim S2x65536x16x64 ![] bcast_S_S2x65536x16x64 (constant (F := Ideal) S_ .f32 0x7FC00000#32))

/-- The rows of `y` at the positions `w`, clamped into the sequence. -/
def takeRows (y : Vec Ideal S2x4096x16x64 .f32) (w : IVec S2x4096x16x16 32) : Vec Ideal S2x4096x16x16x64 .f32 :=
  shapeCast _ (masked (inRange (wrapped (ixCol w)))
    (Host.gather gather_S2x4096x16x64_S2x65536x16x1_S2x65536x16x64_3_1_02_02_1_3_11164 y (wrapped (ixCol w)))) shapeCasts_S2x65536x16x64_S2x4096x16x16x64

theorem ixCol_at (w : IVec S2x4096x16x16 32) (b : Fin 2) (r : Fin 65536) (h : Fin 16) (u : Fin 1) :
    ixCol w (ix4 b r h u) = clampW (w (ix4 b ⟨r.val / 16, by omega⟩ ⟨r.val % 16, by omega⟩ h)) := by
  unfold ixCol
  pointwise
  rfl

theorem wrapped_at (I : IVec S2x65536x16x1 32) (i : S2x65536x16x1.Idx) (h : ∃ w, I i = clampW w) : wrapped I i = I i := by
  obtain ⟨w, hw⟩ := h
  have h := (nonneg_clampW w).1
  unfold wrapped
  pointwise
  simp [Scalar.select, IntOp.cmpi, hw, h]

theorem inRange_at (J : IVec S2x65536x16x1 32) (i : S2x65536x16x1.Idx) (h : ∃ w, J i = clampW w) : inRange J i = 1#1 := by
  obtain ⟨w, hw⟩ := h
  have h := (nonneg_clampW w).2
  unfold inRange
  pointwise
  simp [IntOp.cmpi, IntOp.andi, hw, h.1, h.2]

theorem masked_at (c : IVec S2x65536x16x1 1) (hc : ∀ i, c i = 1#1) (g : Vec Ideal S2x65536x16x64 .f32) (b : Fin 2) (r : Fin 65536) (h : Fin 16) (d : Fin 64) :
    masked c g (ix4 b r h d) = g (ix4 b r h d) := by
  have e : ∀ i, Host.reduce IntOp.andi c (constantI S_ 1 1#1) reducesTo_S2x65536x16x1_S2x65536x16_d3 h_S_ i = 1#1 :=
    fun i => Host.reduce_andi_one c _ _ _ i rfl hc
  unfold masked
  generalize Host.reduce IntOp.andi c (constantI S_ 1 1#1) reducesTo_S2x65536x16x1_S2x65536x16_d3 h_S_ = z at e ⊢
  pointwise
  simp [Scalar.select, e]

theorem takeRows_at (y : Vec Ideal S2x4096x16x64 .f32) (w : IVec S2x4096x16x16 32) (b : Fin 2) (p : Fin 4096) (k h : Fin 16) (d : Fin 64) :
    takeRows y w (ix5 b p k h d) = y (ix4 b (rowAt (clampW (w (ix4 b p k h)))) h d) := by
  have hcl : ∀ i, ∃ v, ixCol w i = clampW v := fun i =>
    ⟨_, (congrArg (ixCol w) (show i = ix4 (i 0) (i 1) (i 2) (i 3) by funext a; match a with | ⟨0, _⟩ => rfl | ⟨1, _⟩ => rfl | ⟨2, _⟩ => rfl | ⟨3, _⟩ => rfl)).trans (ixCol_at w _ _ _ _)⟩
  have hw : ∀ i, wrapped (ixCol w) i = ixCol w i := fun i => wrapped_at _ i (hcl i)
  have hr : ∀ i, inRange (wrapped (ixCol w)) i = 1#1 := fun i => inRange_at _ i (by rw [hw]; exact hcl i)
  have e1 : wrapped (ixCol w) (ix4 b (tapAt p k) h 0) = clampW (w (ix4 b p k h)) := by
    rw [hw, ixCol_at]
    have a := tapAt_div p k
    have c := tapAt_mod p k
    rw [a, c]
  have e2 := gather_at y (wrapped (ixCol w)) b (tapAt p k) h d
  have e3 : masked (inRange (wrapped (ixCol w))) (Host.gather gather_S2x4096x16x64_S2x65536x16x1_S2x65536x16x64_3_1_02_02_1_3_11164 y (wrapped (ixCol w)))
      (ix4 b (tapAt p k) h d) = y (ix4 b (rowAt (clampW (w (ix4 b p k h)))) h d) :=
    (masked_at _ hr _ b (tapAt p k) h d).trans (e2.trans (congrArg (fun v => y (ix4 b (rowAt v) h d)) e1))
  rw [← e3]
  unfold takeRows
  generalize masked (inRange (wrapped (ixCol w))) (Host.gather gather_S2x4096x16x64_S2x65536x16x1_S2x65536x16x64_3_1_02_02_1_3_11164 y (wrapped (ixCol w))) = z
  pointwise
  rfl

theorem v122_eq : val_main_v122 (F := Ideal) x0 x4 x5 x6 x10 x11 = takeRows (val_main_v86 (F := Ideal) x0 x10 x11) (val_main_v102 (F := Ideal) x0 x4 x5 x6) := by
  unfold val_main_v122 val_main_v121 val_main_call2_v14 val_main_call2_cst val_main_call2_v13 val_main_call2_v12 val_main_call2_v11 val_main_call2_c_3 val_main_call2_v10 val_main_call2_v9 val_main_call2_v8 val_main_call2_v7 val_main_call2_v6 val_main_call2_v5 val_main_call2_c_2 val_main_call2_c_1 val_main_call2_v4 val_main_call2_v3 val_main_call2_v2 val_main_call2_c_0 val_main_call2_v1 val_main_call2_v0 val_main_call2_c
    val_main_v120 val_main_v119 val_main_v117 val_main_call0_v4 val_main_call0_v3 val_main_call0_v2 val_main_call0_v1 val_main_call0_v0 val_main_c_21 val_main_c_22
    takeRows masked inRange wrapped ixCol
  generalize val_main_v102 (F := Ideal) x0 x4 x5 x6 = w
  generalize val_main_v86 (F := Ideal) x0 x10 x11 = y
  rfl

theorem v132_eq : val_main_v132 (F := Ideal) x0 x4 x5 x6 x10 x11 = takeRows (val_main_v86 (F := Ideal) x0 x10 x11) (val_main_v104 (F := Ideal) x0 x4 x5 x6) := by
  unfold val_main_v132 val_main_v131 val_main_call3_v14 val_main_call3_cst val_main_call3_v13 val_main_call3_v12 val_main_call3_v11 val_main_call3_c_3 val_main_call3_v10 val_main_call3_v9 val_main_call3_v8 val_main_call3_v7 val_main_call3_v6 val_main_call3_v5 val_main_call3_c_2 val_main_call3_c_1 val_main_call3_v4 val_main_call3_v3 val_main_call3_v2 val_main_call3_c_0 val_main_call3_v1 val_main_call3_v0 val_main_call3_c
    val_main_v130 val_main_v129 val_main_v118 val_main_call1_v4 val_main_call1_v3 val_main_call1_v2 val_main_call1_v1 val_main_call1_v0 val_main_c_23 val_main_c_24
    takeRows masked inRange wrapped ixCol
  generalize val_main_v104 (F := Ideal) x0 x4 x5 x6 = w
  generalize val_main_v86 (F := Ideal) x0 x10 x11 = y
  rfl

end Cert.ReferenceIdeal.Read

end
-- ==== Proof.RPos.lean ====
/- The reference's taps: their positions, whole and fractional, and the masks. -/
module

public import proofs.«01_k».proof.Proof.RTap
public import proofs.«01_k».proof.Proof.Gen.ReferenceIdeal.Read
public import proofs.«01_k».proof.Proof.SpecFacts
public import Idealize.ShloMosaic.Lib.ReduceAll
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic
open Cert.Spec

variable (x0 : Vec Ideal S2x4096x1024 .f32) (x1 : Vec Ideal S16x1024 .f32) (x2 x3 : Vec Ideal S16 .f32) (x4 : Vec Ideal S16x1024 .f32)
  (x5 x6 : Vec Ideal S16 .f32) (x7 : Vec Ideal S256x1024 .f32) (x8 x9 : Vec Ideal S256 .f32) (x10 : Vec Ideal S1024x1024 .f32)
  (x11 : Vec Ideal S1024 .f32) (x12 : Vec Ideal S1024x1024 .f32) (A₀ : Args)

local notation "𝔸" => A x0 x1 x2 x3 x4 x5 x6 x7 x8 x9 x10 x11 x12

/-- Whether a position lies in the sequence, as a float. -/
def maskOf (w : BitVec 32) : EReal :=
  FloatOps.uitofp (F := Ideal) FTy.f32 (IntOp.andi (IntOp.cmpi .sge w 0#32) (IntOp.cmpi .slt w 4096#32))

theorem maskOf_in (w : BitVec 32) (h1 : 0 ≤ w.toInt) (h2 : w.toInt < 4096) : maskOf w = 1 := by
  have e0 : (0#32 : BitVec 32).toInt = 0 := by decide
  have e1 : (4096#32 : BitVec 32).toInt = 4096 := by decide
  have a : (0#32 : BitVec 32).sle w = true := by rw [BitVec.sle_iff_toInt_le, e0]; exact h1
  have b : w.slt 4096#32 = true := by rw [BitVec.slt_iff_toInt_lt, e1]; exact h2
  unfold maskOf
  simp only [IntOp.cmpi, a, b]
  show (((1 : ℕ) : ℝ) : EReal) = 1
  simp

theorem maskOf_out (w : BitVec 32) (h : ¬ (0 ≤ w.toInt ∧ w.toInt < 4096)) : maskOf w = 0 := by
  have e0 : (0#32 : BitVec 32).toInt = 0 := by decide
  have e1 : (4096#32 : BitVec 32).toInt = 4096 := by decide
  unfold maskOf
  by_cases ha : 0 ≤ w.toInt
  · have a : (0#32 : BitVec 32).sle w = true := by rw [BitVec.sle_iff_toInt_le, e0]; exact ha
    have b : w.slt 4096#32 = false := by rw [← Bool.not_eq_true, BitVec.slt_iff_toInt_lt, e1]; exact fun hb => h ⟨ha, hb⟩
    simp only [IntOp.cmpi, a, b]
    show (((0 : ℕ) : ℝ) : EReal) = 0
    simp
  · have a : (0#32 : BitVec 32).sle w = false := by rw [← Bool.not_eq_true, BitVec.sle_iff_toInt_le, e0]; exact ha
    cases b : w.slt 4096#32 <;>
    · simp only [IntOp.cmpi, a, b]
      show (((0 : ℕ) : ℝ) : EReal) = 0
      simp

/-- A taken row under its mask is the value at the position, zero outside the sequence. -/
theorem tap_val (b : Fin 2) (q : Fin 1024) (z : ℤ) (h1 : -10000 ≤ z) (h2 : z ≤ 10000) (x : EReal) :
    val A₀ (nAt b (rowAt (clampW (BitVec.ofInt 32 z)))) q * (x * maskOf (BitVec.ofInt 32 z)) = tv A₀ b q z * x := by
  have hz := toInt_small z h1 h2
  have hc := clampW_toInt (BitVec.ofInt 32 z)
  rw [hz] at hc
  unfold tv
  by_cases h : 0 ≤ z ∧ z < 4096
  · rw [dif_pos h, maskOf_in _ (by rw [hz]; exact h.1) (by rw [hz]; exact h.2), mul_one]
    congr 2
    refine Fin.ext ?_
    show b.val * 4096 + min (clampW (BitVec.ofInt 32 z)).toInt.toNat 4095 = 4096 * b.val + z.toNat
    rw [hc]
    omega
  · rw [dif_neg h, maskOf_out _ (by rw [hz]; exact h), mul_zero, mul_zero, zero_mul]

theorem pos_nAt (b : Fin 2) (p : Fin 4096) : pos (nAt b p) = p.val := by
  unfold pos nAt; show (b.val * 4096 + p.val) % 4096 = p.val; omega
theorem bat_nAt (b : Fin 2) (p : Fin 4096) : bat (nAt b p) = b :=
  Fin.ext (by unfold bat nAt; show (b.val * 4096 + p.val) / 4096 = b.val; omega)

theorem src_bounds (b : Fin 2) (p : Fin 4096) (h k : Fin 16) : -10000 ≤ src A₀ (nAt b p) h + k.val ∧ src A₀ (nAt b p) h + k.val + 1 ≤ 10000 := by
  have := offZ_bounds A₀ (nAt b p) h
  unfold src
  rw [pos_nAt]
  omega

theorem v100_at (b : Fin 2) (p : Fin 4096) (k h : Fin 16) : val_main_v100 (F := Ideal) x0 x4 x5 x6 (ix4 b p k h)
    = (((src 𝔸 (nAt b p) h + k.val : ℤ) : ℝ) : EReal) := by
  rw [← (posf_split 𝔸 (nAt b p) h k p.val (pos_nAt b p).symm).1, ← v99_at, val_main_v100_apply]
  rfl

theorem v101_at (b : Fin 2) (p : Fin 4096) (k h : Fin 16) : val_main_v101 (F := Ideal) x0 x4 x5 x6 (ix4 b p k h) = frac 𝔸 (nAt b p) h := by
  rw [← (posf_split 𝔸 (nAt b p) h k p.val (pos_nAt b p).symm).2, ← v99_at, ← v100_at, val_main_v101_apply]
  rfl

theorem v102_at (b : Fin 2) (p : Fin 4096) (k h : Fin 16) : val_main_v102 (F := Ideal) x0 x4 x5 x6 (ix4 b p k h)
    = BitVec.ofInt 32 (src 𝔸 (nAt b p) h + k.val) := by
  have hb := src_bounds 𝔸 b p h k
  rw [← fptosi_coe _ hb.1 (by omega), ← v100_at, val_main_v102_apply]
  rfl

theorem v104_at (b : Fin 2) (p : Fin 4096) (k h : Fin 16) : val_main_v104 (F := Ideal) x0 x4 x5 x6 (ix4 b p k h)
    = BitVec.ofInt 32 (src 𝔸 (nAt b p) h + k.val + 1) := by
  have e := v102_at x0 x1 x2 x3 x4 x5 x6 x7 x8 x9 x10 x11 x12 b p k h
  rw [BitVec.ofInt_add, ← e]
  unfold val_main_v104 val_main_v103 val_main_c
  generalize val_main_v102 (F := Ideal) x0 x4 x5 x6 = y
  pointwise
  rfl

end Cert.ReferenceIdeal.Read

end
-- ==== Proof.RVal.lean ====
/- The reference's taps: their interpolated values and their weights. -/
module

public import proofs.«01_k».proof.Proof.RPos
public import proofs.«01_k».proof.Proof.Gen.ReferenceIdeal.Read
public import proofs.«01_k».proof.Proof.SpecFacts
public import Idealize.ShloMosaic.Lib.ReduceAll
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic
open Cert.Spec

variable (x0 : Vec Ideal S2x4096x1024 .f32) (x1 : Vec Ideal S16x1024 .f32) (x2 x3 : Vec Ideal S16 .f32) (x4 : Vec Ideal S16x1024 .f32)
  (x5 x6 : Vec Ideal S16 .f32) (x7 : Vec Ideal S256x1024 .f32) (x8 x9 : Vec Ideal S256 .f32) (x10 : Vec Ideal S1024x1024 .f32)
  (x11 : Vec Ideal S1024 .f32) (x12 : Vec Ideal S1024x1024 .f32) (A₀ : Args)

local notation "𝔸" => A x0 x1 x2 x3 x4 x5 x6 x7 x8 x9 x10 x11 x12

theorem bits_one : bits 0x3F800000#32 = 1 := by simp [bits]

theorem v110_at (i : S2x4096x16x16.Idx) : val_main_v110 (F := Ideal) x0 x4 x5 x6 i = maskOf (val_main_v102 (F := Ideal) x0 x4 x5 x6 i) := by
  rw [val_main_v110_apply, val_main_v109_apply, val_main_v108_apply, val_main_v107_apply, val_main_v106_apply, val_main_v105_apply]
  rfl

theorem v116_at (i : S2x4096x16x16.Idx) : val_main_v116 (F := Ideal) x0 x4 x5 x6 i = maskOf (val_main_v104 (F := Ideal) x0 x4 x5 x6 i) := by
  rw [val_main_v116_apply, val_main_v115_apply, val_main_v114_apply, val_main_v113_apply, val_main_v112_apply, val_main_v111_apply]
  rfl

theorem v137_parts (b : Fin 2) (p : Fin 4096) (k h : Fin 16) (d : Fin 64) : val_main_v137 (F := Ideal) x0 x4 x5 x6 x10 x11 (ix5 b p k h d)
    = val_main_v122 (F := Ideal) x0 x4 x5 x6 x10 x11 (ix5 b p k h d)
        * ((1 - val_main_v101 (F := Ideal) x0 x4 x5 x6 (ix4 b p k h)) * val_main_v110 (F := Ideal) x0 x4 x5 x6 (ix4 b p k h))
      + val_main_v132 (F := Ideal) x0 x4 x5 x6 x10 x11 (ix5 b p k h d)
        * (val_main_v101 (F := Ideal) x0 x4 x5 x6 (ix4 b p k h) * val_main_v116 (F := Ideal) x0 x4 x5 x6 (ix4 b p k h)) := by
  rw [val_main_v137_apply, val_main_v128_apply, val_main_v136_apply, val_main_v127_apply, val_main_v126_apply, val_main_v135_apply, val_main_v134_apply,
    val_main_v125_apply, val_main_v133_apply, val_main_v124_apply, val_main_v123_apply]
  have e1 : idx_main_v126 (idx_main_v127 (ix5 b p k h d)) = ix4 b p k h := by
    funext a; match a with | ⟨0, _⟩ => rfl | ⟨1, _⟩ => rfl | ⟨2, _⟩ => rfl | ⟨3, _⟩ => rfl
  have e2 : idx_main_v134 (idx_main_v135 (ix5 b p k h d)) = ix4 b p k h := by
    funext a; match a with | ⟨0, _⟩ => rfl | ⟨1, _⟩ => rfl | ⟨2, _⟩ => rfl | ⟨3, _⟩ => rfl
  rw [e1, e2]
  generalize val_main_v110 (F := Ideal) x0 x4 x5 x6 = w
  generalize val_main_v116 (F := Ideal) x0 x4 x5 x6 = w'
  generalize val_main_v101 (F := Ideal) x0 x4 x5 x6 = f
  generalize val_main_v122 (F := Ideal) x0 x4 x5 x6 x10 x11 = y
  generalize val_main_v132 (F := Ideal) x0 x4 x5 x6 x10 x11 = y'
  have e3 : ∀ i, val_main_cst_25 (F := Ideal) i = 1 := fun i => bits_one
  rw [e3]
  rfl

theorem v95_at (k : Fin 16) : val_main_v95 (F := Ideal) (ix4 (0 : Fin 1) (0 : Fin 1) k (0 : Fin 1)) = (((k.val : ℝ) - 8 : ℝ) : EReal) := by
  rw [EReal.coe_sub, ← sitofp_small k.val (by omega), ← bits_8]
  unfold val_main_v95 val_main_v94 val_main_v93 val_main_v92 val_main_v91 val_main_cst_16
  pointwise

theorem v156_at (b : Fin 2) (p : Fin 4096) (k h : Fin 16) : val_main_v156 (F := Ideal) x0 x1 x2 x3 x7 x8 x9 (ix4 b p k h) = wgt 𝔸 (nAt b p) h k := by
  have e1 := v31_at x0 x1 x2 x3 x4 x5 x6 x7 x8 x9 x10 x11 x12 b p h
  have e2 := v79_at x0 x1 x2 x3 x4 x5 x6 x7 x8 x9 x10 x11 x12 b p h k
  have e3 := v95_at k
  unfold wgt
  rw [← e1, ← e2]
  unfold val_main_v156 val_main_v155 val_main_v154 val_main_v153 val_main_v152 val_main_v151 val_main_v150 val_main_v149 val_main_v148 val_main_v147 val_main_v146 val_main_v145
    val_main_v144 val_main_v143 val_main_v142 val_main_v141 val_main_v140 val_main_v139 val_main_v138 val_main_cst_26 val_main_cst_27 val_main_cst_28
  generalize val_main_v31 (F := Ideal) x0 x1 x2 x3 = y
  generalize val_main_v79 (F := Ideal) x0 x7 x8 x9 = z
  generalize val_main_v95 (F := Ideal) = r at e3 ⊢
  pointwise
  have e4 : FloatOps.absf (F := Ideal) (φ := .f32) (r (ix4 0 0 k 0)) = relA k := by rw [e3]; rfl
  rw [e4, bits_8]
  have e5 : relA k ≤ ((8 : ℝ) : EReal) := by
    unfold relA
    rw [EReal.coe_le_coe_iff, abs_le]
    have hk : (k.val : ℝ) ≤ 15 := by exact_mod_cast Nat.le_of_lt_succ k.isLt
    have hk0 : (0 : ℝ) ≤ k.val := Nat.cast_nonneg _
    exact ⟨by linarith, by linarith⟩
  rw [decide_eq_true e5]
  have e6 : FloatOps.uitofp (F := Ideal) FTy.f32 (BitVec.ofBool true) = 1 := by
    show (((1 : ℕ) : ℝ) : EReal) = 1
    simp
  rw [e6, mul_one]
  rfl

end Cert.ReferenceIdeal.Read

end
-- ==== Proof.ROut.lean ====
/- The reference's result: the taps' weighted sum and the output layer. -/
module

public import proofs.«01_k».proof.Proof.RVal
public import proofs.«01_k».proof.Proof.Gen.ReferenceIdeal.Read
public import proofs.«01_k».proof.Proof.SpecFacts
public import Idealize.ShloMosaic.Lib.ReduceAll
public import Idealize.ShloMosaic.Lib.Pointwise
public import Idealize.ShloMosaic.Lib.Pipeline.ValueKit

@[expose] public section

set_option maxRecDepth 16384

noncomputable section

namespace Cert.ReferenceIdeal.Read

open Cert.ReferenceIdeal Cert.ReferenceIdeal.Gen
open Idealize.ShloMosaic Idealize.ShloMosaic.TcCoe Idealize.ShloMosaic.Tactic
open Cert.Spec

variable (x0 : Vec Ideal S2x4096x1024 .f32) (x1 : Vec Ideal S16x1024 .f32) (x2 x3 : Vec Ideal S16 .f32) (x4 : Vec Ideal S16x1024 .f32)
  (x5 x6 : Vec Ideal S16 .f32) (x7 : Vec Ideal S256x1024 .f32) (x8 x9 : Vec Ideal S256 .f32) (x10 : Vec Ideal S1024x1024 .f32)
  (x11 : Vec Ideal S1024 .f32) (x12 : Vec Ideal S1024x1024 .f32) (A₀ : Args)

local notation "𝔸" => A x0 x1 x2 x3 x4 x5 x6 x7 x8 x9 x10 x11 x12

theorem v137_at (b : Fin 2) (p : Fin 4096) (k h : Fin 16) (d : Fin 64) : val_main_v137 (F := Ideal) x0 x4 x5 x6 x10 x11 (ix5 b p k h d)
    = tv 𝔸 b ⟨64 * h.val + d.val, by omega⟩ (src 𝔸 (nAt b p) h + k.val) * (1 - frac 𝔸 (nAt b p) h)
      + tv 𝔸 b ⟨64 * h.val + d.val, by omega⟩ (src 𝔸 (nAt b p) h + k.val + 1) * frac 𝔸 (nAt b p) h := by
  have hb := src_bounds 𝔸 b p h k
  have a0 := v102_at x0 x1 x2 x3 x4 x5 x6 x7 x8 x9 x10 x11 x12 b p k h
  have a1 := v104_at x0 x1 x2 x3 x4 x5 x6 x7 x8 x9 x10 x11 x12 b p k h
  have f := v101_at x0 x1 x2 x3 x4 x5 x6 x7 x8 x9 x10 x11 x12 b p k h
  have e0 := (congrFun (v122_eq x0 x4 x5 x6 x10 x11) (ix5 b p k h d)).trans (takeRows_at _ _ b p k h d)
  have e1 := (congrFun (v132_eq x0 x4 x5 x6 x10 x11) (ix5 b p k h d)).trans (takeRows_at _ _ b p k h d)
  have e2 := fun c => v86_at x0 x1 x2 x3 x4 x5 x6 x7 x8 x9 x10 x11 x12 b c h d
  have m0 := v110_at x0 x4 x5 x6 (ix4 b p k h)
  have m1 := v116_at x0 x4 x5 x6 (ix4 b p k h)
  refine (v137_parts x0 x4 x5 x6 x10 x11 b p k h d).trans ?_
  rw [f, m0, m1, e0, e1, a0, a1, e2, e2, tap_val _ _ _ _ hb.1 (by omega), tap_val _ _ _ _ (by omega) hb.2]

theorem v160_at (b : Fin 2) (p : Fin 4096) (h : Fin 16) (d : Fin 64) : val_main_v160 (F := Ideal) x0 x1 x2 x3 x4 x5 x6 x7 x8 x9 x10 x11 (ix4 b p h d)
    = hid 𝔸 (nAt b p) ⟨64 * h.val + d.val, by omega⟩ := by
  have hh : hd ⟨64 * h.val + d.val, by omega⟩ = h := Fin.ext (by unfold hd; show (64 * h.val + d.val) / 64 = h.val; omega)
  unfold hid
  rw [hh, bat_nAt]
  have e : ∀ k : Fin 16, val_main_v159 (F := Ideal) x0 x1 x2 x3 x4 x5 x6 x7 x8 x9 x10 x11 (ix5 b p k h d)
      = (tv 𝔸 b ⟨64 * h.val + d.val, by omega⟩ (src 𝔸 (nAt b p) h + k.val) * (1 - frac 𝔸 (nAt b p) h)
      + tv 𝔸 b ⟨64 * h.val + d.val, by omega⟩ (src 𝔸 (nAt b p) h + k.val + 1) * frac 𝔸 (nAt b p) h) * wgt 𝔸 (nAt b p) h k := fun k => by
    have e1 : idx_main_v157 (idx_main_v158 (ix5 b p k h d)) = ix4 b p k h := by
      funext a; match a with | ⟨0, _⟩ => rfl | ⟨1, _⟩ => rfl | ⟨2, _⟩ => rfl | ⟨3, _⟩ => rfl
    rw [val_main_v159_apply, val_main_v158_apply, val_main_v157_apply, e1, v137_at x0 x1 x2 x3 x4 x5 x6 x7 x8 x9 x10 x11 x12,
      v156_at x0 x1 x2 x3 x4 x5 x6 x7 x8 x9 x10 x11 x12]
    rfl
  rw [← Finset.sum_congr rfl fun k _ => e k]
  unfold val_main_v160
  generalize val_main_v159 (F := Ideal) x0 x1 x2 x3 x4 x5 x6 x7 x8 x9 x10 x11 = y
  unfold val_main_cst_29
  pointwise

theorem place_nAt (b : Fin 2) (p : Fin 4096) : (⟨(nAt b p).val % 4096, Nat.mod_lt _ (by omega)⟩ : Fin 4096) = p :=
  Fin.ext (pos_nAt b p)

theorem v162_at (b : Fin 2) (p : Fin 4096) (q : Fin 1024) : val_main_v162 (F := Ideal) x0 x1 x2 x3 x4 x5 x6 x7 x8 x9 x10 x11 (ix2 (nAt b p) q)
    = hid 𝔸 (nAt b p) q := by
  have e := v160_at x0 x1 x2 x3 x4 x5 x6 x7 x8 x9 x10 x11 x12 b p ⟨q.val / 64, by omega⟩ ⟨q.val % 64, by omega⟩
  rw [show (⟨64 * (q.val / 64) + q.val % 64, by omega⟩ : Fin 1024) = q from Fin.ext (show 64 * (q.val / 64) + q.val % 64 = q.val by omega)] at e
  rw [← e]
  unfold val_main_v162 val_main_v161
  generalize val_main_v160 (F := Ideal) x0 x1 x2 x3 x4 x5 x6 x7 x8 x9 x10 x11 = y
  pointwise
  have eb := bat_nAt b p
  have ep := place_nAt b p
  show y (ix4 (bat (nAt b p)) ⟨(nAt b p).val % 4096, Nat.mod_lt _ (by omega)⟩ ⟨q.val / 64, by omega⟩ ⟨q.val % 64, by omega⟩) = _
  rw [eb, ep]

theorem v164_at (b : Fin 2) (p : Fin 4096) (q : Fin 1024) : val_main_v164 (F := Ideal) x0 x1 x2 x3 x4 x5 x6 x7 x8 x9 x10 x11 x12 (ix2 (nAt b p) q)
    = o 𝔸 (nAt b p) q := by
  have e := fun c => v162_at x0 x1 x2 x3 x4 x5 x6 x7 x8 x9 x10 x11 x12 b p c
  unfold o
  rw [← Finset.sum_congr rfl fun c _ => congrArg (· * (𝔸).Wout q c) (e c)]
  unfold val_main_v164 val_main_v163
  generalize val_main_v162 (F := Ideal) x0 x1 x2 x3 x4 x5 x6 x7 x8 x9 x10 x11 = y
  pointwise
  rfl

theorem v171_at (i : S8192x1024.Idx) : val_main_v171 (F := Ideal) x0 x1 x2 x3 x4 x5 x6 x7 x8 x9 x10 x11 x12 i
    = val_main_v164 (F := Ideal) x0 x1 x2 x3 x4 x5 x6 x7 x8 x9 x10 x11 x12 i * Ideal.logistic (val_main_v164 (F := Ideal) x0 x1 x2 x3 x4 x5 x6 x7 x8 x9 x10 x11 x12 i) := by
  rw [val_main_v171_apply, val_main_v170_apply, val_main_v169_apply, val_main_v168_apply, val_main_v167_apply, val_main_v166_apply, val_main_v165_apply]
  generalize val_main_v164 (F := Ideal) x0 x1 x2 x3 x4 x5 x6 x7 x8 x9 x10 x11 x12 i = y
  have e1 : ∀ i, val_main_cst_30 (F := Ideal) i = 1 := fun i => bits_one
  have e2 : ∀ i, val_main_cst_31 (F := Ideal) i = 1 := fun i => bits_one
  rw [e1, e2]
  rfl

/-- The reference's result is the layer's output. -/
theorem v172_at (b : Fin 2) (p : Fin 4096) (q : Fin 1024) : val_main_v172 (F := Ideal) x0 x1 x2 x3 x4 x5 x6 x7 x8 x9 x10 x11 x12 (ix3 b p q)
    = out 𝔸 (nAt b p) q := by
  have hi : idx_main_v172 (ix3 b p q) = ix2 (nAt b p) q := by
    funext a
    match a with
    | ⟨0, _⟩ => exact Fin.ext (show ((b.val * 4096 + p.val) * 1024 + q.val) / 1024 = b.val * 4096 + p.val by omega)
    | ⟨1, _⟩ => exact Fin.ext (show ((b.val * 4096 + p.val) * 1024 + q.val) % 1024 = q.val by omega)
  unfold out
  rw [val_main_v172_apply, hi, v171_at, v164_at]

end Cert.ReferenceIdeal.Read

end
-- ==== Proof.Finite.lean ====
/- What the precondition says of the arguments: the input, the value layer's weights and bias, and the scales of the kernel
   logits are real numbers. -/
module

public import proofs.«01_k».proof.Defs
public import proofs.«01_k».proof.Proof.SpecFacts
public import Idealize.ShloMosaic.Lib.ReduceAll

@[expose] public section

set_option maxRecDepth 16384

noncomputable section

namespace Cert.Pre_finite

open Idealize.ShloMosaic Cert.Spec

/-- The side conditions of the precondition's operations. -/
theorem facts : Facts where
  bcast_S_S2x4096x1024 := by decide
  reducesTo_S2x4096x1024_S_d0_1_2 := by decide
  h_S_ := by decide
  bcast_S_S1024x1024 := by decide
  reducesTo_S1024x1024_S_d0_1 := by decide
  bcast_S_S1024 := by decide
  reducesTo_S1024_S_d0 := by decide
  bcast_S_S256 := by decide
  reducesTo_S256_S_d0 := by decide

/-- A number below infinity in absolute value is real. -/
theorem real_of_test (x : EReal)
    (h : FloatOps.cmpf (F := Ideal) (φ := .f32) .olt (FloatOps.absf (F := Ideal) (φ := .f32) x) (FloatOps.ofBits (F := Ideal) .f32 0x7F800000#32) = 1#1) :
    IsReal x := by
  have hi : FloatOps.ofBits (F := Ideal) .f32 0x7F800000#32 = (⊤ : EReal) := by
    show Ideal.ofBits .f32 0x7F800000#32 = ⊤
    simp [Ideal.ofBits, Ideal.ieee]
  rw [hi] at h
  have hf : ∀ y : EReal, FloatOps.cmpf (F := Ideal) (φ := .f32) .olt (⊤ : EReal) ⊤ ≠ 1#1 := fun y => by
    show BitVec.ofBool (decide ((⊤ : EReal) < ⊤)) ≠ 1#1
    simp
  induction x with
  | bot => exact absurd h (hf 0)
  | top => exact absurd h (hf 0)
  | coe r => exact IsReal.coe r

variable [hF : Facts]

instance : Subsingleton S_.Idx := ⟨fun a b => funext fun i => i.elim0⟩

/-- An array all below infinity in absolute value is an array of reals. -/
theorem real_of_all {s : Shape} {axes : List (Fin s.rank)} (a : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf a) (broadcastInDim s ![] hb (constant (F := Ideal) S_ .f32 0x7F800000#32))) (constantI S_ 1 1#1) hr h0 j = 1#1)
    (i : s.Idx) : IsReal (a i) :=
  real_of_test (a i) (Host.reduce_andi_all _ _ hr h0 j h i)

/-- The precondition, array by array. -/
theorem real_args (x0 : FVec Ideal S2x4096x1024 .f32) (x1 : FVec Ideal S16x1024 .f32) (x2 x3 : FVec Ideal S16 .f32) (x4 : FVec Ideal S16x1024 .f32)
    (x5 x6 : FVec Ideal S16 .f32) (x7 : FVec Ideal S256x1024 .f32) (x8 x9 : FVec Ideal S256 .f32) (x10 : FVec Ideal S1024x1024 .f32)
    (x11 : FVec Ideal S1024 .f32) (x12 : FVec Ideal S1024x1024 .f32) (j : S_.Idx)
    (h : fn (F := Ideal) x0 x1 x2 x3 x4 x5 x6 x7 x8 x9 x10 x11 x12 j = 1#1) : Fin' (argsOf x0 x1 x2 x3 x4 x5 x6 x7 x8 x9 x10 x11 x12) := by
  unfold fn fn_part1 at h
  obtain ⟨h123, h4⟩ := IntOp.andi_eq_one.1 h
  obtain ⟨h12, h3⟩ := IntOp.andi_eq_one.1 h123
  obtain ⟨h1, h2⟩ := IntOp.andi_eq_one.1 h12
  exact ⟨fun n c => real_of_all x0 _ _ _ j h1 _, fun r c => real_of_all x10 _ _ _ j h2 _, fun r => real_of_all x11 _ _ _ j h3 _,
    fun r => real_of_all x9 _ _ _ j h4 _⟩

end Cert.Pre_finite

end
-- ==== Proof.Equation.lean ====
/- The kernel's ideal program and the reference end with equal results: both are the layer's output, of arguments that agree. -/
module

public import proofs.«01_k».proof.Proof.Frames
public import proofs.«01_k».proof.Proof.KOut
public import proofs.«01_k».proof.Proof.ROut
public import proofs.«01_k».proof.Proof.Finite

@[expose] public section

set_option maxRecDepth 16384

noncomputable section

namespace Cert.Proof

open Idealize.ShloMosaic Idealize.SL.Sem Cert.Spec

attribute [local instance] Cert.KernelIdeal.Gen.facts Cert.ReferenceIdeal.Gen.facts Cert.Pre_finite.facts

/-- The two numberings of a batch's position. -/
theorem nAt_eq (b : Fin 2) (p : Fin 4096) : Cert.ReferenceIdeal.Read.nAt b p = ⟨4096 * b.val + p.val, by omega⟩ :=
  Fin.ext (by unfold Cert.ReferenceIdeal.Read.nAt; show b.val * 4096 + p.val = 4096 * b.val + p.val; omega)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's result, of arrays of the same arguments, is the kernel's. -/
theorem result_eq (x0 : Vec Ideal Cert.ReferenceIdeal.S2x4096x1024 .f32) (x1 : Vec Ideal Cert.ReferenceIdeal.S16x1024 .f32) (x2 x3 : Vec Ideal Cert.ReferenceIdeal.S16 .f32)
    (x4 : Vec Ideal Cert.ReferenceIdeal.S16x1024 .f32) (x5 x6 : Vec Ideal Cert.ReferenceIdeal.S16 .f32) (x7 : Vec Ideal Cert.ReferenceIdeal.S256x1024 .f32)
    (x8 x9 : Vec Ideal Cert.ReferenceIdeal.S256 .f32) (x10 : Vec Ideal Cert.ReferenceIdeal.S1024x1024 .f32) (x11 : Vec Ideal Cert.ReferenceIdeal.S1024 .f32)
    (x12 : Vec Ideal Cert.ReferenceIdeal.S1024x1024 .f32) (c : Dev Cert.KernelIdeal.nD)
    (h : argsOf x0 x1 x2 x3 x4 x5 x6 x7 x8 x9 x10 x11 x12 = Cert.KernelIdeal.Gen.argsK m c) :
    Cert.ReferenceIdeal.Read.val_main_v172 (F := Ideal) x0 x1 x2 x3 x4 x5 x6 x7 x8 x9 x10 x11 x12 = Cert.KernelIdeal.Gen.resT m c := by
  funext y
  have hy : y = ix3 (y 0) (y 1) (y 2) := by funext a; match a with | ⟨0, _⟩ => rfl | ⟨1, _⟩ => rfl | ⟨2, _⟩ => rfl
  refine (congrArg _ hy).trans ((Cert.ReferenceIdeal.Read.v172_at x0 x1 x2 x3 x4 x5 x6 x7 x8 x9 x10 x11 x12 (y 0) (y 1) (y 2)).trans ?_)
  unfold Cert.KernelIdeal.Gen.resT
  exact (congrArg (fun A : Args => out A _ _) h).trans (congrArg (fun n => out _ n (y 2)) (nAt_eq (y 0) (y 1)))

/-- The algebraic claim. -/
theorem algebraic : Cert.algebraic_KernelIdeal_ReferenceIdeal_pre_finite := by
  intro m g m' g' hpre hargs
  have H : ∀ c, Fin' (Cert.KernelIdeal.Gen.argsK m c) := fun c =>
    Cert.Pre_finite.real_args _ _ _ _ _ _ _ _ _ _ _ _ _ (fun i => i.elim0) (congrFun (hpre c) fun i => i.elim0)
  refine ⟨fun c => Cert.KernelIdeal.Gen.resT m c, ?_, ?_⟩
  · refine (θ_run _ _ _).mono (fun r h c => ⟨h.1 c, h.2.1 c⟩)
      (θ_run_and (Cert.KernelIdeal.Gen.run_value m g H) (Cert.KernelIdeal.Gen.frame (F := Ideal) m g))
  · refine (θ_run _ _ _).mono (fun r h c => ⟨(h c).1.trans ?_, (h c).2⟩) (Cert.ReferenceIdeal.Value.run m' g')
    refine (Cert.ReferenceIdeal.Read.val_main_v172_eq (StableHlo.launchContents m' c)).trans ?_
    simp only [StableHlo.launchContents_devRef]
    obtain ⟨h0, h1, h2, h3, h4, h5, h6, h7, h8, h9, h10, h11, h12⟩ := hargs c
    refine result_eq m _ _ _ _ _ _ _ _ _ _ _ _ _ c ?_
    unfold Cert.KernelIdeal.Gen.argsK
    rw [← h0, ← h1, ← h2, ← h3, ← h4, ← h5, ← h6, ← h7, ← h8, ← h9, ← h10, ← h11, ← h12]

end Cert.Proof

end
-- ==== Proof.lean ====
/- The certificate: the frames of the kernel, of its ideal program and of the reference, that the ideal program is the
   kernel over the extended reals, and that it and the reference end with equal results. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Frames
public import proofs.«01_k».proof.Proof.Equation
public import proofs.«01_k».proof.Proof.Gen.ReferenceIdeal

public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.facts, by
  exact ⟨frame_kernel, frame_kernelIdeal, fun m ρ _ => frame_kernelIdeal m ρ trivial, frame_referenceIdeal, fun m ρ _ => frame_referenceIdeal m ρ trivial,
    trivial, algebraic⟩⟩

end Cert.Proof

end
